-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v14_0)) (v3 : (c : Dev Cert.KernelIdeal.nD) → Buf (Elt Ideal) ((c.tc : Thread Cert.KernelIdeal.nD Cert.KernelIdeal.τ).loc Cert.KernelIdeal.main_v14_1)) (v4 : (c : Dev Cert.KernelIdeal.nD) → Buf (Elt Ideal) ((c.tc : Thread Cert.KernelIdeal.nD Cert.KernelIdeal.τ).loc Cert.KernelIdeal.main_v14_2)) (v5 : (c : Dev Cert.KernelIdeal.nD) → Buf (Elt Ideal) ((c.tc : Thread Cert.KernelIdeal.nD Cert.KernelIdeal.τ).loc Cert.KernelIdeal.main_v14_3)) (v6 : (c : Dev Cert.KernelIdeal.nD) → Buf (Elt Ideal) ((c.tc : Thread Cert.KernelIdeal.nD Cert.KernelIdeal.τ).loc Cert.KernelIdeal.main_v9_1)) (v7 : (c : Dev Cert.KernelIdeal.nD) → Buf (Elt Ideal) ((c.tc : Thread Cert.KernelIdeal.nD Cert.KernelIdeal.τ).loc Cert.KernelIdeal.main_v14_4)) (v8 : (c : Dev Cert.KernelIdeal.nD) → Buf (Elt Ideal) ((c.tc : Thread Cert.KernelIdeal.nD Cert.KernelIdeal.τ).loc Cert.KernelIdeal.main_v14_5)) (v9 : (c : Dev Cert.KernelIdeal.nD) → Buf (Elt Ideal) ((c.tc : Thread Cert.KernelIdeal.nD Cert.KernelIdeal.τ).loc Cert.KernelIdeal.main_v14_6)) (v10 : (c : Dev Cert.KernelIdeal.nD) → Buf (Elt Ideal) ((c.tc : Thread Cert.KernelIdeal.nD Cert.KernelIdeal.τ).loc Cert.KernelIdeal.main_v14_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v14_0) = v2 c
          ∧ r.2.mem ((c.tc : Thread Cert.KernelIdeal.nD Cert.KernelIdeal.τ).loc Cert.KernelIdeal.main_v14_1) = v3 c
          ∧ r.2.mem ((c.tc : Thread Cert.KernelIdeal.nD Cert.KernelIdeal.τ).loc Cert.KernelIdeal.main_v14_2) = v4 c
          ∧ r.2.mem ((c.tc : Thread Cert.KernelIdeal.nD Cert.KernelIdeal.τ).loc Cert.KernelIdeal.main_v14_3) = v5 c
          ∧ r.2.mem ((c.tc : Thread Cert.KernelIdeal.nD Cert.KernelIdeal.τ).loc Cert.KernelIdeal.main_v9_1) = v6 c
          ∧ r.2.mem ((c.tc : Thread Cert.KernelIdeal.nD Cert.KernelIdeal.τ).loc Cert.KernelIdeal.main_v14_4) = v7 c
          ∧ r.2.mem ((c.tc : Thread Cert.KernelIdeal.nD Cert.KernelIdeal.τ).loc Cert.KernelIdeal.main_v14_5) = v8 c
          ∧ r.2.mem ((c.tc : Thread Cert.KernelIdeal.nD Cert.KernelIdeal.τ).loc Cert.KernelIdeal.main_v14_6) = v9 c
          ∧ r.2.mem ((c.tc : Thread Cert.KernelIdeal.nD Cert.KernelIdeal.τ).loc Cert.KernelIdeal.main_v14_7) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v395) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v162) = v2 c
          ∧ r.2.mem ((c.tc : Thread Cert.ReferenceIdeal.nD Cert.ReferenceIdeal.τ).loc Cert.ReferenceIdeal.main_v239) = v3 c
          ∧ r.2.mem ((c.tc : Thread Cert.ReferenceIdeal.nD Cert.ReferenceIdeal.τ).loc Cert.ReferenceIdeal.main_v316) = v4 c
          ∧ r.2.mem ((c.tc : Thread Cert.ReferenceIdeal.nD Cert.ReferenceIdeal.τ).loc Cert.ReferenceIdeal.main_v393) = v5 c
          ∧ r.2.mem ((c.tc : Thread Cert.ReferenceIdeal.nD Cert.ReferenceIdeal.τ).loc Cert.ReferenceIdeal.main_v86) = v6 c
          ∧ r.2.mem ((c.tc : Thread Cert.ReferenceIdeal.nD Cert.ReferenceIdeal.τ).loc Cert.ReferenceIdeal.main_v163) = v7 c
          ∧ r.2.mem ((c.tc : Thread Cert.ReferenceIdeal.nD Cert.ReferenceIdeal.τ).loc Cert.ReferenceIdeal.main_v240) = v8 c
          ∧ r.2.mem ((c.tc : Thread Cert.ReferenceIdeal.nD Cert.ReferenceIdeal.τ).loc Cert.ReferenceIdeal.main_v317) = v9 c
          ∧ r.2.mem ((c.tc : Thread Cert.ReferenceIdeal.nD Cert.ReferenceIdeal.τ).loc Cert.ReferenceIdeal.main_v394) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x3x512x512 : Shape := ⟨4, ![1, 3, 512, 512]⟩
abbrev S1x256x128x128 : Shape := ⟨4, ![1, 256, 128, 128]⟩
abbrev S1x256x64x64 : Shape := ⟨4, ![1, 256, 64, 64]⟩
abbrev S1x256x32x32 : Shape := ⟨4, ![1, 256, 32, 32]⟩
abbrev S1x256x16x16 : Shape := ⟨4, ![1, 256, 16, 16]⟩
abbrev S1x256x8x8 : Shape := ⟨4, ![1, 256, 8, 8]⟩
abbrev S256x256x3x3 : Shape := ⟨4, ![256, 256, 3, 3]⟩
abbrev S256 : Shape := ⟨1, ![256]⟩
abbrev S15x256 : Shape := ⟨2, ![15, 256]⟩
abbrev S15 : Shape := ⟨1, ![15]⟩
abbrev S60x256 : Shape := ⟨2, ![60, 256]⟩
abbrev S60 : Shape := ⟨1, ![60]⟩
abbrev S3x3x256x256 : Shape := ⟨4, ![3, 3, 256, 256]⟩
abbrev S9x256x256 : Shape := ⟨3, ![9, 256, 256]⟩
abbrev S256x1 : Shape := ⟨2, ![256, 1]⟩
abbrev S75x256 : Shape := ⟨2, ![75, 256]⟩
abbrev S75 : Shape := ⟨1, ![75]⟩
abbrev S75x1 : Shape := ⟨2, ![75, 1]⟩
abbrev S256x16384 : Shape := ⟨2, ![256, 16384]⟩
abbrev S1x15x128x128 : Shape := ⟨4, ![1, 15, 128, 128]⟩
abbrev S1x60x128x128 : Shape := ⟨4, ![1, 60, 128, 128]⟩
abbrev S4x327360 : Shape := ⟨2, ![4, 327360]⟩
abbrev S1x15x16x128 : Shape := ⟨4, ![1, 15, 16, 128]⟩
abbrev S1x60x16x128 : Shape := ⟨4, ![1, 60, 16, 128]⟩
abbrev S1x2048 : Shape := ⟨2, ![1, 2048]⟩
abbrev S256x2048 : Shape := ⟨2, ![256, 2048]⟩
abbrev S1x256x256 : Shape := ⟨3, ![1, 256, 256]⟩
abbrev S256x256 : Shape := ⟨2, ![256, 256]⟩
abbrev S75x2048 : Shape := ⟨2, ![75, 2048]⟩
abbrev S15x2048 : Shape := ⟨2, ![15, 2048]⟩
abbrev S60x2048 : Shape := ⟨2, ![60, 2048]⟩
abbrev S4x1 : Shape := ⟨2, ![4, 1]⟩
abbrev S1x245760 : Shape := ⟨2, ![1, 245760]⟩
abbrev S4x245760 : Shape := ⟨2, ![4, 245760]⟩
abbrev S1x61440 : Shape := ⟨2, ![1, 61440]⟩
abbrev S4x61440 : Shape := ⟨2, ![4, 61440]⟩
abbrev S1x15360 : Shape := ⟨2, ![1, 15360]⟩
abbrev S4x15360 : Shape := ⟨2, ![4, 15360]⟩
abbrev S1x3840 : Shape := ⟨2, ![1, 3840]⟩
abbrev S4x3840 : Shape := ⟨2, ![4, 3840]⟩
abbrev S1x960 : Shape := ⟨2, ![1, 960]⟩
abbrev S4x960 : Shape := ⟨2, ![4, 960]⟩
abbrev S256x4096 : Shape := ⟨2, ![256, 4096]⟩
abbrev S256x1024 : Shape := ⟨2, ![256, 1024]⟩
abbrev S256x64 : Shape := ⟨2, ![256, 64]⟩
abbrev S1x15x64x64 : Shape := ⟨4, ![1, 15, 64, 64]⟩
abbrev S1x15x32x32 : Shape := ⟨4, ![1, 15, 32, 32]⟩
abbrev S1x15x16x16 : Shape := ⟨4, ![1, 15, 16, 16]⟩
abbrev S1x15x8x8 : Shape := ⟨4, ![1, 15, 8, 8]⟩
abbrev S1x60x64x64 : Shape := ⟨4, ![1, 60, 64, 64]⟩
abbrev S1x60x32x32 : Shape := ⟨4, ![1, 60, 32, 32]⟩
abbrev S1x60x16x16 : Shape := ⟨4, ![1, 60, 16, 16]⟩
abbrev S1x60x8x8 : Shape := ⟨4, ![1, 60, 8, 8]⟩
abbrev S1x4096 : Shape := ⟨2, ![1, 4096]⟩
abbrev S75x4096 : Shape := ⟨2, ![75, 4096]⟩
abbrev S15x4096 : Shape := ⟨2, ![15, 4096]⟩
abbrev S60x4096 : Shape := ⟨2, ![60, 4096]⟩
abbrev S1x1024 : Shape := ⟨2, ![1, 1024]⟩
abbrev S75x1024 : Shape := ⟨2, ![75, 1024]⟩
abbrev S15x1024 : Shape := ⟨2, ![15, 1024]⟩
abbrev S60x1024 : Shape := ⟨2, ![60, 1024]⟩
abbrev S1x256 : Shape := ⟨2, ![1, 256]⟩
abbrev S1x64 : Shape := ⟨2, ![1, 64]⟩
abbrev S75x64 : Shape := ⟨2, ![75, 64]⟩
abbrev S15x64 : Shape := ⟨2, ![15, 64]⟩
abbrev S60x64 : Shape := ⟨2, ![60, 64]⟩
abbrev S327360x4 : Shape := ⟨2, ![327360, 4]⟩

abbrev nBuf : Space → Nat
  | .hbm => 37
  | .vmem => 26
  | .smem => 0
  | _ => 0

abbrev bufTy : (tb : Table) → Fin (tcTables nBuf tb) → BufTy
  | .hbm, ⟨0, _⟩ => ⟨S1x3x512x512, .f32⟩
  | .hbm, ⟨1, _⟩ => ⟨S1x256x128x128, .f32⟩
  | .hbm, ⟨2, _⟩ => ⟨S1x256x64x64, .f32⟩
  | .hbm, ⟨3, _⟩ => ⟨S1x256x32x32, .f32⟩
  | .hbm, ⟨4, _⟩ => ⟨S1x256x16x16, .f32⟩
  | .hbm, ⟨5, _⟩ => ⟨S1x256x8x8, .f32⟩
  | .hbm, ⟨6, _⟩ => ⟨S256x256x3x3, .f32⟩
  | .hbm, ⟨7, _⟩ => ⟨S256, .f32⟩
  | .hbm, ⟨8, _⟩ => ⟨S15x256, .f32⟩
  | .hbm, ⟨9, _⟩ => ⟨S15, .f32⟩
  | .hbm, ⟨10, _⟩ => ⟨S60x256, .f32⟩
  | .hbm, ⟨11, _⟩ => ⟨S60, .f32⟩
  | .hbm, ⟨12, _⟩ => ⟨S3x3x256x256, .f32⟩
  | .hbm, ⟨13, _⟩ => ⟨S9x256x256, .f32⟩
  | .hbm, ⟨14, _⟩ => ⟨S9x256x256, .bf16⟩
  | .hbm, ⟨15, _⟩ => ⟨S256x1, .f32⟩
  | .hbm, ⟨16, _⟩ => ⟨S75x256, .f32⟩
  | .hbm, ⟨17, _⟩ => ⟨S75x256, .bf16⟩
  | .hbm, ⟨18, _⟩ => ⟨S75, .f32⟩
  | .hbm, ⟨19, _⟩ => ⟨S75x1, .f32⟩
  | .hbm, ⟨20, _⟩ => ⟨S256x16384, .f32⟩
  | .hbm, ⟨21, _⟩ => ⟨S1x15x128x128, .f32⟩
  | .hbm, ⟨22, _⟩ => ⟨S1x60x128x128, .f32⟩
  | .hbm, ⟨23, _⟩ => ⟨S4x327360, .f32⟩
  | .hbm, ⟨24, _⟩ => ⟨S256x4096, .f32⟩
  | .hbm, ⟨25, _⟩ => ⟨S256x1024, .f32⟩
  | .hbm, ⟨26, _⟩ => ⟨S256x256, .f32⟩
  | .hbm, ⟨27, _⟩ => ⟨S256x64, .f32⟩
  | .hbm, ⟨28, _⟩ => ⟨S1x15x64x64, .f32⟩
  | .hbm, ⟨29, _⟩ => ⟨S1x15x32x32, .f32⟩
  | .hbm, ⟨30, _⟩ => ⟨S1x15x16x16, .f32⟩
  | .hbm, ⟨31, _⟩ => ⟨S1x15x8x8, .f32⟩
  | .hbm, ⟨32, _⟩ => ⟨S1x60x64x64, .f32⟩
  | .hbm, ⟨33, _⟩ => ⟨S1x60x32x32, .f32⟩
  | .hbm, ⟨34, _⟩ => ⟨S1x60x16x16, .f32⟩
  | .hbm, ⟨35, _⟩ => ⟨S1x60x8x8, .f32⟩
  | .hbm, ⟨36, _⟩ => ⟨S327360x4, .f32⟩
  | .local _ .vmem, ⟨0, _⟩ => ⟨S256x16384, .f32⟩
  | .local _ .vmem, ⟨1, _⟩ => ⟨S9x256x256, .bf16⟩
  | .local _ .vmem, ⟨2, _⟩ => ⟨S256x1, .f32⟩
  | .local _ .vmem, ⟨3, _⟩ => ⟨S75x256, .bf16⟩
  | .local _ .vmem, ⟨4, _⟩ => ⟨S75x1, .f32⟩
  | .local _ .vmem, ⟨5, _⟩ => ⟨S1x15x16x128, .f32⟩
  | .local _ .vmem, ⟨6, _⟩ => ⟨S1x15x16x128, .f32⟩
  | .local _ .vmem, ⟨7, _⟩ => ⟨S1x60x16x128, .f32⟩
  | .local _ .vmem, ⟨8, _⟩ => ⟨S1x60x16x128, .f32⟩
  | .local _ .vmem, ⟨9, _⟩ => ⟨S4x327360, .f32⟩
  | .local _ .vmem, ⟨10, _⟩ => ⟨S256x4096, .f32⟩
  | .local _ .vmem, ⟨11, _⟩ => ⟨S256x1024, .f32⟩
  | .local _ .vmem, ⟨12, _⟩ => ⟨S256x256, .f32⟩
  | .local _ .vmem, ⟨13, _⟩ => ⟨S256x64, .f32⟩
  | .local _ .vmem, ⟨14, _⟩ => ⟨S9x256x256, .bf16⟩
  | .local _ .vmem, ⟨15, _⟩ => ⟨S256x1, .f32⟩
  | .local _ .vmem, ⟨16, _⟩ => ⟨S75x256, .bf16⟩
  | .local _ .vmem, ⟨17, _⟩ => ⟨S75x1, .f32⟩
  | .local _ .vmem, ⟨18, _⟩ => ⟨S1x15x64x64, .f32⟩
  | .local _ .vmem, ⟨19, _⟩ => ⟨S1x15x32x32, .f32⟩
  | .local _ .vmem, ⟨20, _⟩ => ⟨S1x15x16x16, .f32⟩
  | .local _ .vmem, ⟨21, _⟩ => ⟨S1x15x8x8, .f32⟩
  | .local _ .vmem, ⟨22, _⟩ => ⟨S1x60x64x64, .f32⟩
  | .local _ .vmem, ⟨23, _⟩ => ⟨S1x60x32x32, .f32⟩
  | .local _ .vmem, ⟨24, _⟩ => ⟨S1x60x16x16, .f32⟩
  | .local _ .vmem, ⟨25, _⟩ => ⟨S1x60x8x8, .f32⟩
  | _, _ => ⟨S1x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v14_3 : Ref sig .tc := ⟨.hbm, 31, rfl⟩
abbrev main_v14_4 : Ref sig .tc := ⟨.hbm, 32, rfl⟩
abbrev main_v14_5 : Ref sig .tc := ⟨.hbm, 33, rfl⟩
abbrev main_v14_6 : Ref sig .tc := ⟨.hbm, 34, rfl⟩
abbrev main_v14_7 : Ref sig .tc := ⟨.hbm, 35, rfl⟩
abbrev main_v15 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg14_0 : Ref sig .tc := ⟨.vmem, 24, rfl⟩
abbrev cc1_stg15_0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem14_0 : DmaSem sig := 24
abbrev cc1_sem15_0 : DmaSem sig := 25

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0 : Index := 0#32
  let c128_i32 : BitVec 32 := 128#32
  let arg0 : BitVec 32 := BitVec.ofNat 32 (i 0).val
  let c16_i32 : BitVec 32 := 16#32
  let v4 : BitVec 32 := Scalar.muli arg0 c16_i32
  let c1_i32 : BitVec 32 := 1#32
  let v5 : BitVec 32 := Scalar.subi v4 c1_i32
  let c0_i32 : BitVec 32 := 0#32
  let v6 : BitVec 32 := Scalar.maxsi v5 c0_i32
  let v7 : BitVec 32 := Scalar.muli c128_i32 v6
  let v12 : Index := Scalar.indexCast v7
  ![0, v12.toNat]
def k0_off2 (i : grid0.Coords) : Fin 2 → Nat :=
  let c0_8 : Index := 0#32
  let c128_i32_2 : BitVec 32 := 128#32
  let arg0 : BitVec 32 := BitVec.ofNat 32 (i 0).val
  let c16_i32_0 : BitVec 32 := 16#32
  let v8 : BitVec 32 := Scalar.muli arg0 c16_i32_0
  let c1_i32_1 : BitVec 32 := 1#32
  let v9 : BitVec 32 := Scalar.addi v8 c1_i32_1
  let c112_i32 : BitVec 32 := 112#32
  let v10 : BitVec 32 := Scalar.minsi v9 c112_i32
  let v11 : BitVec 32 := Scalar.muli c128_i32_2 v10
  let v28 : Index := Scalar.indexCast v11
  ![0, v28.toNat]
def k0_off3 (i : grid0.Coords) : Fin 2 → Nat :=
  let c0_14 : Index := 0#32
  let c128_i32_13 : BitVec 32 := 128#32
  let arg0 : BitVec 32 := BitVec.ofNat 32 (i 0).val
  let c16_i32_12 : BitVec 32 := 16#32
  let v44 : BitVec 32 := Scalar.muli arg0 c16_i32_12
  let v45 : BitVec 32 := Scalar.muli c128_i32_13 v44
  let v46 : Index := Scalar.indexCast v45
  ![0, v46.toNat]
def k0_cond1 (i : grid0.Coords) : BitVec 1 :=
  let arg0 : BitVec 32 := BitVec.ofNat 32 (i 0).val
  let c0_i32_69 : BitVec 32 := 0#32
  let v135 : BitVec 1 := Scalar.cmpi .eq arg0 c0_i32_69
  let v136 : BitVec 32 := Scalar.extui v135
  let c0_i32_70 : BitVec 32 := 0#32
  let v137 : BitVec 1 := Scalar.cmpi .ne v136 c0_i32_70
  v137

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S75x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S75x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x15x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x60x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x327360 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_9 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_10 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_11 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_12 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_13 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_14 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_15 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage1_0 : Fin 1 → Memref sig .tc .vmem S256x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S9x256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S75x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S75x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x15x64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x15x32x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x15x16x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x15x8x8 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x60x64x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x60x32x32 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x60x16x16 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x60x8x8 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]
-- ==== ReferenceIdeal.lean ====
abbrev S1x3x512x512 : Shape := ⟨4, ![1, 3, 512, 512]⟩
abbrev S1x256x128x128 : Shape := ⟨4, ![1, 256, 128, 128]⟩
abbrev S1x256x64x64 : Shape := ⟨4, ![1, 256, 64, 64]⟩
abbrev S1x256x32x32 : Shape := ⟨4, ![1, 256, 32, 32]⟩
abbrev S1x256x16x16 : Shape := ⟨4, ![1, 256, 16, 16]⟩
abbrev S1x256x8x8 : Shape := ⟨4, ![1, 256, 8, 8]⟩
abbrev S256x256x3x3 : Shape := ⟨4, ![256, 256, 3, 3]⟩
abbrev S256 : Shape := ⟨1, ![256]⟩
abbrev S15x256 : Shape := ⟨2, ![15, 256]⟩
abbrev S15 : Shape := ⟨1, ![15]⟩
abbrev S60x256 : Shape := ⟨2, ![60, 256]⟩
abbrev S60 : Shape := ⟨1, ![60]⟩
abbrev S15x1x1 : Shape := ⟨3, ![15, 1, 1]⟩
abbrev S128 : Shape := ⟨1, ![128]⟩
abbrev S_ : Shape := ⟨0, ![]⟩
abbrev S1x128x1 : Shape := ⟨3, ![1, 128, 1]⟩
abbrev S15x128x128 : Shape := ⟨3, ![15, 128, 128]⟩
abbrev S1x1x128 : Shape := ⟨3, ![1, 1, 128]⟩
abbrev S15x128x128x1 : Shape := ⟨4, ![15, 128, 128, 1]⟩
abbrev S15x128x128x4 : Shape := ⟨4, ![15, 128, 128, 4]⟩
abbrev S245760x4 : Shape := ⟨2, ![245760, 4]⟩
abbrev S256x128x128 : Shape := ⟨3, ![256, 128, 128]⟩
abbrev S256x130x130 : Shape := ⟨3, ![256, 130, 130]⟩
abbrev S256x256x1x1 : Shape := ⟨4, ![256, 256, 1, 1]⟩
abbrev S256x256 : Shape := ⟨2, ![256, 256]⟩
abbrev S256x1x1 : Shape := ⟨3, ![256, 1, 1]⟩
abbrev S60x128x128 : Shape := ⟨3, ![60, 128, 128]⟩
abbrev S60x1x1 : Shape := ⟨3, ![60, 1, 1]⟩
abbrev S1x15x128x128 : Shape := ⟨4, ![1, 15, 128, 128]⟩
abbrev S1x60x128x128 : Shape := ⟨4, ![1, 60, 128, 128]⟩
abbrev S64 : Shape := ⟨1, ![64]⟩
abbrev S1x64x1 : Shape := ⟨3, ![1, 64, 1]⟩
abbrev S15x64x64 : Shape := ⟨3, ![15, 64, 64]⟩
abbrev S1x1x64 : Shape := ⟨3, ![1, 1, 64]⟩
abbrev S15x64x64x1 : Shape := ⟨4, ![15, 64, 64, 1]⟩
abbrev S15x64x64x4 : Shape := ⟨4, ![15, 64, 64, 4]⟩
abbrev S61440x4 : Shape := ⟨2, ![61440, 4]⟩
abbrev S256x64x64 : Shape := ⟨3, ![256, 64, 64]⟩
abbrev S256x66x66 : Shape := ⟨3, ![256, 66, 66]⟩
abbrev S60x64x64 : Shape := ⟨3, ![60, 64, 64]⟩
abbrev S1x15x64x64 : Shape := ⟨4, ![1, 15, 64, 64]⟩
abbrev S1x60x64x64 : Shape := ⟨4, ![1, 60, 64, 64]⟩
abbrev S32 : Shape := ⟨1, ![32]⟩
abbrev S1x32x1 : Shape := ⟨3, ![1, 32, 1]⟩
abbrev S15x32x32 : Shape := ⟨3, ![15, 32, 32]⟩
abbrev S1x1x32 : Shape := ⟨3, ![1, 1, 32]⟩
abbrev S15x32x32x1 : Shape := ⟨4, ![15, 32, 32, 1]⟩
abbrev S15x32x32x4 : Shape := ⟨4, ![15, 32, 32, 4]⟩
abbrev S15360x4 : Shape := ⟨2, ![15360, 4]⟩
abbrev S256x32x32 : Shape := ⟨3, ![256, 32, 32]⟩
abbrev S256x34x34 : Shape := ⟨3, ![256, 34, 34]⟩
abbrev S60x32x32 : Shape := ⟨3, ![60, 32, 32]⟩
abbrev S1x15x32x32 : Shape := ⟨4, ![1, 15, 32, 32]⟩
abbrev S1x60x32x32 : Shape := ⟨4, ![1, 60, 32, 32]⟩
abbrev S16 : Shape := ⟨1, ![16]⟩
abbrev S1x16x1 : Shape := ⟨3, ![1, 16, 1]⟩
abbrev S15x16x16 : Shape := ⟨3, ![15, 16, 16]⟩
abbrev S1x1x16 : Shape := ⟨3, ![1, 1, 16]⟩
abbrev S15x16x16x1 : Shape := ⟨4, ![15, 16, 16, 1]⟩
abbrev S15x16x16x4 : Shape := ⟨4, ![15, 16, 16, 4]⟩
abbrev S3840x4 : Shape := ⟨2, ![3840, 4]⟩
abbrev S256x16x16 : Shape := ⟨3, ![256, 16, 16]⟩
abbrev S256x18x18 : Shape := ⟨3, ![256, 18, 18]⟩
abbrev S60x16x16 : Shape := ⟨3, ![60, 16, 16]⟩
abbrev S1x15x16x16 : Shape := ⟨4, ![1, 15, 16, 16]⟩
abbrev S1x60x16x16 : Shape := ⟨4, ![1, 60, 16, 16]⟩
abbrev S8 : Shape := ⟨1, ![8]⟩
abbrev S1x8x1 : Shape := ⟨3, ![1, 8, 1]⟩
abbrev S15x8x8 : Shape := ⟨3, ![15, 8, 8]⟩
abbrev S1x1x8 : Shape := ⟨3, ![1, 1, 8]⟩
abbrev S15x8x8x1 : Shape := ⟨4, ![15, 8, 8, 1]⟩
abbrev S15x8x8x4 : Shape := ⟨4, ![15, 8, 8, 4]⟩
abbrev S960x4 : Shape := ⟨2, ![960, 4]⟩
abbrev S256x8x8 : Shape := ⟨3, ![256, 8, 8]⟩
abbrev S256x10x10 : Shape := ⟨3, ![256, 10, 10]⟩
abbrev S60x8x8 : Shape := ⟨3, ![60, 8, 8]⟩
abbrev S1x15x8x8 : Shape := ⟨4, ![1, 15, 8, 8]⟩
abbrev S1x60x8x8 : Shape := ⟨4, ![1, 60, 8, 8]⟩
abbrev S327360x4 : Shape := ⟨2, ![327360, 4]⟩

abbrev nBuf : Space → Nat
  | .hbm => 433
  | .vmem => 0
  | .smem => 0
  | _ => 0

abbrev hbmTy0_0 (i : Nat) : BufTy := match i % 128 with
  | 0 => ⟨S1x3x512x512, .f32⟩
  | 1 => ⟨S1x256x128x128, .f32⟩
  | 2 => ⟨S1x256x64x64, .f32⟩
  | 3 => ⟨S1x256x32x32, .f32⟩
  | 4 => ⟨S1x256x16x16, .f32⟩
  | 5 => ⟨S1x256x8x8, .f32⟩
  | 6 => ⟨S256x256x3x3, .f32⟩
  | 7 => ⟨S256, .f32⟩
  | 8 => ⟨S15x256, .f32⟩
  | 9 => ⟨S15, .f32⟩
  | 10 => ⟨S60x256, .f32⟩
  | 11 => ⟨S60, .f32⟩
  | 12 => ⟨S15, .f32⟩
  | 13 => ⟨S15x1x1, .f32⟩
  | 14 => ⟨S15, .f32⟩
  | 15 => ⟨S15x1x1, .f32⟩
  | 16 => ⟨S15, .f32⟩
  | 17 => ⟨S15x1x1, .f32⟩
  | 18 => ⟨S15, .f32⟩
  | 19 => ⟨S15x1x1, .f32⟩
  | 20 => ⟨S15, .f32⟩
  | 21 => ⟨S15x1x1, .f32⟩
  | 22 => ⟨S15, .f32⟩
  | 23 => ⟨S15x1x1, .f32⟩
  | 24 => ⟨S15, .f32⟩
  | 25 => ⟨S15x1x1, .f32⟩
  | 26 => ⟨S15, .f32⟩
  | 27 => ⟨S15x1x1, .f32⟩
  | 28 => ⟨S15, .f32⟩
  | 29 => ⟨S15x1x1, .f32⟩
  | 30 => ⟨S15, .f32⟩
  | 31 => ⟨S15x1x1, .f32⟩
  | 32 => ⟨S128, .i32⟩
  | 33 => ⟨S128, .f32⟩
  | 34 => ⟨S_, .f32⟩
  | 35 => ⟨S128, .f32⟩
  | 36 => ⟨S128, .f32⟩
  | 37 => ⟨S1x128x1, .f32⟩
  | 38 => ⟨S15x128x128, .f32⟩
  | 39 => ⟨S1x1x128, .f32⟩
  | 40 => ⟨S15x128x128, .f32⟩
  | 41 => ⟨S15x128x128, .f32⟩
  | 42 => ⟨S15x128x128, .f32⟩
  | 43 => ⟨S15x128x128x1, .f32⟩
  | 44 => ⟨S15x128x128x1, .f32⟩
  | 45 => ⟨S15x128x128x1, .f32⟩
  | 46 => ⟨S15x128x128x1, .f32⟩
  | 47 => ⟨S15x128x128x4, .f32⟩
  | 48 => ⟨S245760x4, .f32⟩
  | 49 => ⟨S256x128x128, .f32⟩
  | 50 => ⟨S_, .f32⟩
  | 51 => ⟨S256x130x130, .f32⟩
  | 52 => ⟨S256x256x1x1, .f32⟩
  | 53 => ⟨S256x256, .f32⟩
  | 54 => ⟨S256x128x128, .f32⟩
  | 55 => ⟨S256x128x128, .f32⟩
  | 56 => ⟨S256x256x1x1, .f32⟩
  | 57 => ⟨S256x256, .f32⟩
  | 58 => ⟨S256x128x128, .f32⟩
  | 59 => ⟨S256x128x128, .f32⟩
  | 60 => ⟨S256x128x128, .f32⟩
  | 61 => ⟨S256x256x1x1, .f32⟩
  | 62 => ⟨S256x256, .f32⟩
  | 63 => ⟨S256x128x128, .f32⟩
  | 64 => ⟨S256x128x128, .f32⟩
  | 65 => ⟨S256x128x128, .f32⟩
  | 66 => ⟨S256x256x1x1, .f32⟩
  | 67 => ⟨S256x256, .f32⟩
  | 68 => ⟨S256x128x128, .f32⟩
  | 69 => ⟨S256x128x128, .f32⟩
  | 70 => ⟨S256x128x128, .f32⟩
  | 71 => ⟨S256x256x1x1, .f32⟩
  | 72 => ⟨S256x256, .f32⟩
  | 73 => ⟨S256x128x128, .f32⟩
  | 74 => ⟨S256x128x128, .f32⟩
  | 75 => ⟨S256x128x128, .f32⟩
  | 76 => ⟨S256x256x1x1, .f32⟩
  | 77 => ⟨S256x256, .f32⟩
  | 78 => ⟨S256x128x128, .f32⟩
  | 79 => ⟨S256x128x128, .f32⟩
  | 80 => ⟨S256x128x128, .f32⟩
  | 81 => ⟨S256x256x1x1, .f32⟩
  | 82 => ⟨S256x256, .f32⟩
  | 83 => ⟨S256x128x128, .f32⟩
  | 84 => ⟨S256x128x128, .f32⟩
  | 85 => ⟨S256x128x128, .f32⟩
  | 86 => ⟨S256x256x1x1, .f32⟩
  | 87 => ⟨S256x256, .f32⟩
  | 88 => ⟨S256x128x128, .f32⟩
  | 89 => ⟨S256x128x128, .f32⟩
  | 90 => ⟨S256x128x128, .f32⟩
  | 91 => ⟨S256x256x1x1, .f32⟩
  | 92 => ⟨S256x256, .f32⟩
  | 93 => ⟨S256x128x128, .f32⟩
  | 94 => ⟨S256x128x128, .f32⟩
  | 95 => ⟨S256x128x128, .f32⟩
  | 96 => ⟨S256x1x1, .f32⟩
  | 97 => ⟨S256x128x128, .f32⟩
  | 98 => ⟨S256x128x128, .f32⟩
  | 99 => ⟨S_, .f32⟩
  | 100 => ⟨S256x128x128, .f32⟩
  | 101 => ⟨S256x128x128, .f32⟩
  | 102 => ⟨S15x128x128, .f32⟩
  | 103 => ⟨S15x1x1, .f32⟩
  | 104 => ⟨S15x128x128, .f32⟩
  | 105 => ⟨S15x128x128, .f32⟩
  | 106 => ⟨S60x128x128, .f32⟩
  | 107 => ⟨S60x1x1, .f32⟩
  | 108 => ⟨S60x128x128, .f32⟩
  | 109 => ⟨S60x128x128, .f32⟩
  | 110 => ⟨S1x15x128x128, .f32⟩
  | 111 => ⟨S1x60x128x128, .f32⟩
  | 112 => ⟨S64, .i32⟩
  | 113 => ⟨S64, .f32⟩
  | 114 => ⟨S_, .f32⟩
  | 115 => ⟨S64, .f32⟩
  | 116 => ⟨S64, .f32⟩
  | 117 => ⟨S1x64x1, .f32⟩
  | 118 => ⟨S15x64x64, .f32⟩
  | 119 => ⟨S1x1x64, .f32⟩
  | 120 => ⟨S15x64x64, .f32⟩
  | 121 => ⟨S15x64x64, .f32⟩
  | 122 => ⟨S15x64x64, .f32⟩
  | 123 => ⟨S15x64x64x1, .f32⟩
  | 124 => ⟨S15x64x64x1, .f32⟩
  | 125 => ⟨S15x64x64x1, .f32⟩
  | 126 => ⟨S15x64x64x1, .f32⟩
  | 127 => ⟨S15x64x64x4, .f32⟩
  | _ => ⟨S1x3x512x512, .f32⟩

abbrev hbmTy0_1 (i : Nat) : BufTy := match i % 128 with
  | 0 => ⟨S61440x4, .f32⟩
  | 1 => ⟨S256x64x64, .f32⟩
  | 2 => ⟨S_, .f32⟩
  | 3 => ⟨S256x66x66, .f32⟩
  | 4 => ⟨S256x256x1x1, .f32⟩
  | 5 => ⟨S256x256, .f32⟩
  | 6 => ⟨S256x64x64, .f32⟩
  | 7 => ⟨S256x64x64, .f32⟩
  | 8 => ⟨S256x256x1x1, .f32⟩
  | 9 => ⟨S256x256, .f32⟩
  | 10 => ⟨S256x64x64, .f32⟩
  | 11 => ⟨S256x64x64, .f32⟩
  | 12 => ⟨S256x64x64, .f32⟩
  | 13 => ⟨S256x256x1x1, .f32⟩
  | 14 => ⟨S256x256, .f32⟩
  | 15 => ⟨S256x64x64, .f32⟩
  | 16 => ⟨S256x64x64, .f32⟩
  | 17 => ⟨S256x64x64, .f32⟩
  | 18 => ⟨S256x256x1x1, .f32⟩
  | 19 => ⟨S256x256, .f32⟩
  | 20 => ⟨S256x64x64, .f32⟩
  | 21 => ⟨S256x64x64, .f32⟩
  | 22 => ⟨S256x64x64, .f32⟩
  | 23 => ⟨S256x256x1x1, .f32⟩
  | 24 => ⟨S256x256, .f32⟩
  | 25 => ⟨S256x64x64, .f32⟩
  | 26 => ⟨S256x64x64, .f32⟩
  | 27 => ⟨S256x64x64, .f32⟩
  | 28 => ⟨S256x256x1x1, .f32⟩
  | 29 => ⟨S256x256, .f32⟩
  | 30 => ⟨S256x64x64, .f32⟩
  | 31 => ⟨S256x64x64, .f32⟩
  | 32 => ⟨S256x64x64, .f32⟩
  | 33 => ⟨S256x256x1x1, .f32⟩
  | 34 => ⟨S256x256, .f32⟩
  | 35 => ⟨S256x64x64, .f32⟩
  | 36 => ⟨S256x64x64, .f32⟩
  | 37 => ⟨S256x64x64, .f32⟩
  | 38 => ⟨S256x256x1x1, .f32⟩
  | 39 => ⟨S256x256, .f32⟩
  | 40 => ⟨S256x64x64, .f32⟩
  | 41 => ⟨S256x64x64, .f32⟩
  | 42 => ⟨S256x64x64, .f32⟩
  | 43 => ⟨S256x256x1x1, .f32⟩
  | 44 => ⟨S256x256, .f32⟩
  | 45 => ⟨S256x64x64, .f32⟩
  | 46 => ⟨S256x64x64, .f32⟩
  | 47 => ⟨S256x64x64, .f32⟩
  | 48 => ⟨S256x1x1, .f32⟩
  | 49 => ⟨S256x64x64, .f32⟩
  | 50 => ⟨S256x64x64, .f32⟩
  | 51 => ⟨S_, .f32⟩
  | 52 => ⟨S256x64x64, .f32⟩
  | 53 => ⟨S256x64x64, .f32⟩
  | 54 => ⟨S15x64x64, .f32⟩
  | 55 => ⟨S15x1x1, .f32⟩
  | 56 => ⟨S15x64x64, .f32⟩
  | 57 => ⟨S15x64x64, .f32⟩
  | 58 => ⟨S60x64x64, .f32⟩
  | 59 => ⟨S60x1x1, .f32⟩
  | 60 => ⟨S60x64x64, .f32⟩
  | 61 => ⟨S60x64x64, .f32⟩
  | 62 => ⟨S1x15x64x64, .f32⟩
  | 63 => ⟨S1x60x64x64, .f32⟩
  | 64 => ⟨S32, .i32⟩
  | 65 => ⟨S32, .f32⟩
  | 66 => ⟨S_, .f32⟩
  | 67 => ⟨S32, .f32⟩
  | 68 => ⟨S32, .f32⟩
  | 69 => ⟨S1x32x1, .f32⟩
  | 70 => ⟨S15x32x32, .f32⟩
  | 71 => ⟨S1x1x32, .f32⟩
  | 72 => ⟨S15x32x32, .f32⟩
  | 73 => ⟨S15x32x32, .f32⟩
  | 74 => ⟨S15x32x32, .f32⟩
  | 75 => ⟨S15x32x32x1, .f32⟩
  | 76 => ⟨S15x32x32x1, .f32⟩
  | 77 => ⟨S15x32x32x1, .f32⟩
  | 78 => ⟨S15x32x32x1, .f32⟩
  | 79 => ⟨S15x32x32x4, .f32⟩
  | 80 => ⟨S15360x4, .f32⟩
  | 81 => ⟨S256x32x32, .f32⟩
  | 82 => ⟨S_, .f32⟩
  | 83 => ⟨S256x34x34, .f32⟩
  | 84 => ⟨S256x256x1x1, .f32⟩
  | 85 => ⟨S256x256, .f32⟩
  | 86 => ⟨S256x32x32, .f32⟩
  | 87 => ⟨S256x32x32, .f32⟩
  | 88 => ⟨S256x256x1x1, .f32⟩
  | 89 => ⟨S256x256, .f32⟩
  | 90 => ⟨S256x32x32, .f32⟩
  | 91 => ⟨S256x32x32, .f32⟩
  | 92 => ⟨S256x32x32, .f32⟩
  | 93 => ⟨S256x256x1x1, .f32⟩
  | 94 => ⟨S256x256, .f32⟩
  | 95 => ⟨S256x32x32, .f32⟩
  | 96 => ⟨S256x32x32, .f32⟩
  | 97 => ⟨S256x32x32, .f32⟩
  | 98 => ⟨S256x256x1x1, .f32⟩
  | 99 => ⟨S256x256, .f32⟩
  | 100 => ⟨S256x32x32, .f32⟩
  | 101 => ⟨S256x32x32, .f32⟩
  | 102 => ⟨S256x32x32, .f32⟩
  | 103 => ⟨S256x256x1x1, .f32⟩
  | 104 => ⟨S256x256, .f32⟩
  | 105 => ⟨S256x32x32, .f32⟩
  | 106 => ⟨S256x32x32, .f32⟩
  | 107 => ⟨S256x32x32, .f32⟩
  | 108 => ⟨S256x256x1x1, .f32⟩
  | 109 => ⟨S256x256, .f32⟩
  | 110 => ⟨S256x32x32, .f32⟩
  | 111 => ⟨S256x32x32, .f32⟩
  | 112 => ⟨S256x32x32, .f32⟩
  | 113 => ⟨S256x256x1x1, .f32⟩
  | 114 => ⟨S256x256, .f32⟩
  | 115 => ⟨S256x32x32, .f32⟩
  | 116 => ⟨S256x32x32, .f32⟩
  | 117 => ⟨S256x32x32, .f32⟩
  | 118 => ⟨S256x256x1x1, .f32⟩
  | 119 => ⟨S256x256, .f32⟩
  | 120 => ⟨S256x32x32, .f32⟩
  | 121 => ⟨S256x32x32, .f32⟩
  | 122 => ⟨S256x32x32, .f32⟩
  | 123 => ⟨S256x256x1x1, .f32⟩
  | 124 => ⟨S256x256, .f32⟩
  | 125 => ⟨S256x32x32, .f32⟩
  | 126 => ⟨S256x32x32, .f32⟩
  | 127 => ⟨S256x32x32, .f32⟩
  | _ => ⟨S1x3x512x512, .f32⟩

abbrev hbmTy0_2 (i : Nat) : BufTy := match i % 128 with
  | 0 => ⟨S256x1x1, .f32⟩
  | 1 => ⟨S256x32x32, .f32⟩
  | 2 => ⟨S256x32x32, .f32⟩
  | 3 => ⟨S_, .f32⟩
  | 4 => ⟨S256x32x32, .f32⟩
  | 5 => ⟨S256x32x32, .f32⟩
  | 6 => ⟨S15x32x32, .f32⟩
  | 7 => ⟨S15x1x1, .f32⟩
  | 8 => ⟨S15x32x32, .f32⟩
  | 9 => ⟨S15x32x32, .f32⟩
  | 10 => ⟨S60x32x32, .f32⟩
  | 11 => ⟨S60x1x1, .f32⟩
  | 12 => ⟨S60x32x32, .f32⟩
  | 13 => ⟨S60x32x32, .f32⟩
  | 14 => ⟨S1x15x32x32, .f32⟩
  | 15 => ⟨S1x60x32x32, .f32⟩
  | 16 => ⟨S16, .i32⟩
  | 17 => ⟨S16, .f32⟩
  | 18 => ⟨S_, .f32⟩
  | 19 => ⟨S16, .f32⟩
  | 20 => ⟨S16, .f32⟩
  | 21 => ⟨S1x16x1, .f32⟩
  | 22 => ⟨S15x16x16, .f32⟩
  | 23 => ⟨S1x1x16, .f32⟩
  | 24 => ⟨S15x16x16, .f32⟩
  | 25 => ⟨S15x16x16, .f32⟩
  | 26 => ⟨S15x16x16, .f32⟩
  | 27 => ⟨S15x16x16x1, .f32⟩
  | 28 => ⟨S15x16x16x1, .f32⟩
  | 29 => ⟨S15x16x16x1, .f32⟩
  | 30 => ⟨S15x16x16x1, .f32⟩
  | 31 => ⟨S15x16x16x4, .f32⟩
  | 32 => ⟨S3840x4, .f32⟩
  | 33 => ⟨S256x16x16, .f32⟩
  | 34 => ⟨S_, .f32⟩
  | 35 => ⟨S256x18x18, .f32⟩
  | 36 => ⟨S256x256x1x1, .f32⟩
  | 37 => ⟨S256x256, .f32⟩
  | 38 => ⟨S256x16x16, .f32⟩
  | 39 => ⟨S256x16x16, .f32⟩
  | 40 => ⟨S256x256x1x1, .f32⟩
  | 41 => ⟨S256x256, .f32⟩
  | 42 => ⟨S256x16x16, .f32⟩
  | 43 => ⟨S256x16x16, .f32⟩
  | 44 => ⟨S256x16x16, .f32⟩
  | 45 => ⟨S256x256x1x1, .f32⟩
  | 46 => ⟨S256x256, .f32⟩
  | 47 => ⟨S256x16x16, .f32⟩
  | 48 => ⟨S256x16x16, .f32⟩
  | 49 => ⟨S256x16x16, .f32⟩
  | 50 => ⟨S256x256x1x1, .f32⟩
  | 51 => ⟨S256x256, .f32⟩
  | 52 => ⟨S256x16x16, .f32⟩
  | 53 => ⟨S256x16x16, .f32⟩
  | 54 => ⟨S256x16x16, .f32⟩
  | 55 => ⟨S256x256x1x1, .f32⟩
  | 56 => ⟨S256x256, .f32⟩
  | 57 => ⟨S256x16x16, .f32⟩
  | 58 => ⟨S256x16x16, .f32⟩
  | 59 => ⟨S256x16x16, .f32⟩
  | 60 => ⟨S256x256x1x1, .f32⟩
  | 61 => ⟨S256x256, .f32⟩
  | 62 => ⟨S256x16x16, .f32⟩
  | 63 => ⟨S256x16x16, .f32⟩
  | 64 => ⟨S256x16x16, .f32⟩
  | 65 => ⟨S256x256x1x1, .f32⟩
  | 66 => ⟨S256x256, .f32⟩
  | 67 => ⟨S256x16x16, .f32⟩
  | 68 => ⟨S256x16x16, .f32⟩
  | 69 => ⟨S256x16x16, .f32⟩
  | 70 => ⟨S256x256x1x1, .f32⟩
  | 71 => ⟨S256x256, .f32⟩
  | 72 => ⟨S256x16x16, .f32⟩
  | 73 => ⟨S256x16x16, .f32⟩
  | 74 => ⟨S256x16x16, .f32⟩
  | 75 => ⟨S256x256x1x1, .f32⟩
  | 76 => ⟨S256x256, .f32⟩
  | 77 => ⟨S256x16x16, .f32⟩
  | 78 => ⟨S256x16x16, .f32⟩
  | 79 => ⟨S256x16x16, .f32⟩
  | 80 => ⟨S256x1x1, .f32⟩
  | 81 => ⟨S256x16x16, .f32⟩
  | 82 => ⟨S256x16x16, .f32⟩
  | 83 => ⟨S_, .f32⟩
  | 84 => ⟨S256x16x16, .f32⟩
  | 85 => ⟨S256x16x16, .f32⟩
  | 86 => ⟨S15x16x16, .f32⟩
  | 87 => ⟨S15x1x1, .f32⟩
  | 88 => ⟨S15x16x16, .f32⟩
  | 89 => ⟨S15x16x16, .f32⟩
  | 90 => ⟨S60x16x16, .f32⟩
  | 91 => ⟨S60x1x1, .f32⟩
  | 92 => ⟨S60x16x16, .f32⟩
  | 93 => ⟨S60x16x16, .f32⟩
  | 94 => ⟨S1x15x16x16, .f32⟩
  | 95 => ⟨S1x60x16x16, .f32⟩
  | 96 => ⟨S8, .i32⟩
  | 97 => ⟨S8, .f32⟩
  | 98 => ⟨S_, .f32⟩
  | 99 => ⟨S8, .f32⟩
  | 100 => ⟨S8, .f32⟩
  | 101 => ⟨S1x8x1, .f32⟩
  | 102 => ⟨S15x8x8, .f32⟩
  | 103 => ⟨S1x1x8, .f32⟩
  | 104 => ⟨S15x8x8, .f32⟩
  | 105 => ⟨S15x8x8, .f32⟩
  | 106 => ⟨S15x8x8, .f32⟩
  | 107 => ⟨S15x8x8x1, .f32⟩
  | 108 => ⟨S15x8x8x1, .f32⟩
  | 109 => ⟨S15x8x8x1, .f32⟩
  | 110 => ⟨S15x8x8x1, .f32⟩
  | 111 => ⟨S15x8x8x4, .f32⟩
  | 112 => ⟨S960x4, .f32⟩
  | 113 => ⟨S256x8x8, .f32⟩
  | 114 => ⟨S_, .f32⟩
  | 115 => ⟨S256x10x10, .f32⟩
  | 116 => ⟨S256x256x1x1, .f32⟩
  | 117 => ⟨S256x256, .f32⟩
  | 118 => ⟨S256x8x8, .f32⟩
  | 119 => ⟨S256x8x8, .f32⟩
  | 120 => ⟨S256x256x1x1, .f32⟩
  | 121 => ⟨S256x256, .f32⟩
  | 122 => ⟨S256x8x8, .f32⟩
  | 123 => ⟨S256x8x8, .f32⟩
  | 124 => ⟨S256x8x8, .f32⟩
  | 125 => ⟨S256x256x1x1, .f32⟩
  | 126 => ⟨S256x256, .f32⟩
  | 127 => ⟨S256x8x8, .f32⟩
  | _ => ⟨S1x3x512x512, .f32⟩

abbrev hbmTy0_3 (i : Nat) : BufTy := match i % 128 with
  | 0 => ⟨S256x8x8, .f32⟩
  | 1 => ⟨S256x8x8, .f32⟩
  | 2 => ⟨S256x256x1x1, .f32⟩
  | 3 => ⟨S256x256, .f32⟩
  | 4 => ⟨S256x8x8, .f32⟩
  | 5 => ⟨S256x8x8, .f32⟩
  | 6 => ⟨S256x8x8, .f32⟩
  | 7 => ⟨S256x256x1x1, .f32⟩
  | 8 => ⟨S256x256, .f32⟩
  | 9 => ⟨S256x8x8, .f32⟩
  | 10 => ⟨S256x8x8, .f32⟩
  | 11 => ⟨S256x8x8, .f32⟩
  | 12 => ⟨S256x256x1x1, .f32⟩
  | 13 => ⟨S256x256, .f32⟩
  | 14 => ⟨S256x8x8, .f32⟩
  | 15 => ⟨S256x8x8, .f32⟩
  | 16 => ⟨S256x8x8, .f32⟩
  | 17 => ⟨S256x256x1x1, .f32⟩
  | 18 => ⟨S256x256, .f32⟩
  | 19 => ⟨S256x8x8, .f32⟩
  | 20 => ⟨S256x8x8, .f32⟩
  | 21 => ⟨S256x8x8, .f32⟩
  | 22 => ⟨S256x256x1x1, .f32⟩
  | 23 => ⟨S256x256, .f32⟩
  | 24 => ⟨S256x8x8, .f32⟩
  | 25 => ⟨S256x8x8, .f32⟩
  | 26 => ⟨S256x8x8, .f32⟩
  | 27 => ⟨S256x256x1x1, .f32⟩
  | 28 => ⟨S256x256, .f32⟩
  | 29 => ⟨S256x8x8, .f32⟩
  | 30 => ⟨S256x8x8, .f32⟩
  | 31 => ⟨S256x8x8, .f32⟩
  | 32 => ⟨S256x1x1, .f32⟩
  | 33 => ⟨S256x8x8, .f32⟩
  | 34 => ⟨S256x8x8, .f32⟩
  | 35 => ⟨S_, .f32⟩
  | 36 => ⟨S256x8x8, .f32⟩
  | 37 => ⟨S256x8x8, .f32⟩
  | 38 => ⟨S15x8x8, .f32⟩
  | 39 => ⟨S15x1x1, .f32⟩
  | 40 => ⟨S15x8x8, .f32⟩
  | 41 => ⟨S15x8x8, .f32⟩
  | 42 => ⟨S60x8x8, .f32⟩
  | 43 => ⟨S60x1x1, .f32⟩
  | 44 => ⟨S60x8x8, .f32⟩
  | 45 => ⟨S60x8x8, .f32⟩
  | 46 => ⟨S1x15x8x8, .f32⟩
  | 47 => ⟨S1x60x8x8, .f32⟩
  | 48 => ⟨S327360x4, .f32⟩
  | _ => ⟨S1x3x512x512, .f32⟩

abbrev hbmTy (i : Nat) : BufTy := match i / 128 with
  | 0 => hbmTy0_0 i
  | 1 => hbmTy0_1 i
  | 2 => hbmTy0_2 i
  | 3 => hbmTy0_3 i
  | _ => ⟨S1x3x512x512, .f32⟩

abbrev bufTy : (tb : Table) → Fin (tcTables nBuf tb) → BufTy
  | .hbm, ⟨i, _⟩ => hbmTy i
  | _, _ => ⟨S1x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_cst_2 : Ref sig .tc := ⟨.hbm, 18, rfl⟩
abbrev main_v3 : Ref sig .tc := ⟨.hbm, 19, rfl⟩
abbrev main_cst_3 : Ref sig .tc := ⟨.hbm, 20, rfl⟩
abbrev main_v4 : Ref sig .tc := ⟨.hbm, 21, rfl⟩
abbrev main_cst_4 : Ref sig .tc := ⟨.hbm, 22, rfl⟩
abbrev main_v5 : Ref sig .tc := ⟨.hbm, 23, rfl⟩
abbrev main_cst_5 : Ref sig .tc := ⟨.hbm, 24, rfl⟩
abbrev main_v6 : Ref sig .tc := ⟨.hbm, 25, rfl⟩
abbrev main_cst_6 : Ref sig .tc := ⟨.hbm, 26, rfl⟩
abbrev main_v7 : Ref sig .tc := ⟨.hbm, 27, rfl⟩
abbrev main_cst_7 : Ref sig .tc := ⟨.hbm, 28, rfl⟩
abbrev main_v8 : Ref sig .tc := ⟨.hbm, 29, rfl⟩
abbrev main_cst_8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_9 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_10 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_11 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_12 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_13 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_cst_14 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_cst_15 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_cst_16 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_cst_17 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_cst_18 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_v247 : Ref sig .tc := ⟨.hbm, 279, rfl⟩
abbrev main_v248 : Ref sig .tc := ⟨.hbm, 280, rfl⟩
abbrev main_v249 : Ref sig .tc := ⟨.hbm, 281, rfl⟩
abbrev main_v250 : Ref sig .tc := ⟨.hbm, 282, rfl⟩
abbrev main_v251 : Ref sig .tc := ⟨.hbm, 283, rfl⟩
abbrev main_v252 : Ref sig .tc := ⟨.hbm, 284, rfl⟩
abbrev main_v253 : Ref sig .tc := ⟨.hbm, 285, rfl⟩
abbrev main_v254 : Ref sig .tc := ⟨.hbm, 286, rfl⟩
abbrev main_v255 : Ref sig .tc := ⟨.hbm, 287, rfl⟩
abbrev main_v256 : Ref sig .tc := ⟨.hbm, 288, rfl⟩
abbrev main_v257 : Ref sig .tc := ⟨.hbm, 289, rfl⟩
abbrev main_cst_19 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_v261 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_v277 : Ref sig .tc := ⟨.hbm, 310, rfl⟩
abbrev main_v278 : Ref sig .tc := ⟨.hbm, 311, rfl⟩
abbrev main_v279 : Ref sig .tc := ⟨.hbm, 312, rfl⟩
abbrev main_v280 : Ref sig .tc := ⟨.hbm, 313, rfl⟩
abbrev main_v281 : Ref sig .tc := ⟨.hbm, 314, rfl⟩
abbrev main_v282 : Ref sig .tc := ⟨.hbm, 315, rfl⟩
abbrev main_v283 : Ref sig .tc := ⟨.hbm, 316, rfl⟩
abbrev main_v284 : Ref sig .tc := ⟨.hbm, 317, rfl⟩
abbrev main_v285 : Ref sig .tc := ⟨.hbm, 318, rfl⟩
abbrev main_v286 : Ref sig .tc := ⟨.hbm, 319, rfl⟩
abbrev main_v287 : Ref sig .tc := ⟨.hbm, 320, rfl⟩
abbrev main_v288 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_v303 : Ref sig .tc := ⟨.hbm, 336, rfl⟩
abbrev main_v304 : Ref sig .tc := ⟨.hbm, 337, rfl⟩
abbrev main_v305 : Ref sig .tc := ⟨.hbm, 338, rfl⟩
abbrev main_cst_20 : Ref sig .tc := ⟨.hbm, 339, rfl⟩
abbrev main_v306 : Ref sig .tc := ⟨.hbm, 340, rfl⟩
abbrev main_v307 : Ref sig .tc := ⟨.hbm, 341, rfl⟩
abbrev main_v308 : Ref sig .tc := ⟨.hbm, 342, rfl⟩
abbrev main_v309 : Ref sig .tc := ⟨.hbm, 343, rfl⟩
abbrev main_v310 : Ref sig .tc := ⟨.hbm, 344, rfl⟩
abbrev main_v311 : Ref sig .tc := ⟨.hbm, 345, rfl⟩
abbrev main_v312 : Ref sig .tc := ⟨.hbm, 346, rfl⟩
abbrev main_v313 : Ref sig .tc := ⟨.hbm, 347, rfl⟩
abbrev main_v314 : Ref sig .tc := ⟨.hbm, 348, rfl⟩
abbrev main_v315 : Ref sig .tc := ⟨.hbm, 349, rfl⟩
abbrev main_v316 : Ref sig .tc := ⟨.hbm, 350, rfl⟩
abbrev main_v317 : Ref sig .tc := ⟨.hbm, 351, rfl⟩
abbrev main_v318 : Ref sig .tc := ⟨.hbm, 352, rfl⟩
abbrev main_v319 : Ref sig .tc := ⟨.hbm, 353, rfl⟩
abbrev main_cst_21 : Ref sig .tc := ⟨.hbm, 354, rfl⟩
abbrev main_v320 : Ref sig .tc := ⟨.hbm, 355, rfl⟩
abbrev main_v321 : Ref sig .tc := ⟨.hbm, 356, rfl⟩
abbrev main_v322 : Ref sig .tc := ⟨.hbm, 357, rfl⟩
abbrev main_v323 : Ref sig .tc := ⟨.hbm, 358, rfl⟩
abbrev main_v324 : Ref sig .tc := ⟨.hbm, 359, rfl⟩
abbrev main_v325 : Ref sig .tc := ⟨.hbm, 360, rfl⟩
abbrev main_v326 : Ref sig .tc := ⟨.hbm, 361, rfl⟩
abbrev main_v327 : Ref sig .tc := ⟨.hbm, 362, rfl⟩
abbrev main_v328 : Ref sig .tc := ⟨.hbm, 363, rfl⟩
abbrev main_v329 : Ref sig .tc := ⟨.hbm, 364, rfl⟩
abbrev main_v330 : Ref sig .tc := ⟨.hbm, 365, rfl⟩
abbrev main_v331 : Ref sig .tc := ⟨.hbm, 366, rfl⟩
abbrev main_v332 : Ref sig .tc := ⟨.hbm, 367, rfl⟩
abbrev main_v333 : Ref sig .tc := ⟨.hbm, 368, rfl⟩
abbrev main_v334 : Ref sig .tc := ⟨.hbm, 369, rfl⟩
abbrev main_cst_22 : Ref sig .tc := ⟨.hbm, 370, rfl⟩
abbrev main_v335 : Ref sig .tc := ⟨.hbm, 371, rfl⟩
abbrev main_v336 : Ref sig .tc := ⟨.hbm, 372, rfl⟩
abbrev main_v337 : Ref sig .tc := ⟨.hbm, 373, rfl⟩
abbrev main_v338 : Ref sig .tc := ⟨.hbm, 374, rfl⟩
abbrev main_v339 : Ref sig .tc := ⟨.hbm, 375, rfl⟩
abbrev main_v340 : Ref sig .tc := ⟨.hbm, 376, rfl⟩
abbrev main_v341 : Ref sig .tc := ⟨.hbm, 377, rfl⟩
abbrev main_v342 : Ref sig .tc := ⟨.hbm, 378, rfl⟩
abbrev main_v343 : Ref sig .tc := ⟨.hbm, 379, rfl⟩
abbrev main_v344 : Ref sig .tc := ⟨.hbm, 380, rfl⟩
abbrev main_v345 : Ref sig .tc := ⟨.hbm, 381, rfl⟩
abbrev main_v346 : Ref sig .tc := ⟨.hbm, 382, rfl⟩
abbrev main_v347 : Ref sig .tc := ⟨.hbm, 383, rfl⟩
abbrev main_v348 : Ref sig .tc := ⟨.hbm, 384, rfl⟩
abbrev main_v349 : Ref sig .tc := ⟨.hbm, 385, rfl⟩
abbrev main_v350 : Ref sig .tc := ⟨.hbm, 386, rfl⟩
abbrev main_v351 : Ref sig .tc := ⟨.hbm, 387, rfl⟩
abbrev main_v352 : Ref sig .tc := ⟨.hbm, 388, rfl⟩
abbrev main_v353 : Ref sig .tc := ⟨.hbm, 389, rfl⟩
abbrev main_v354 : Ref sig .tc := ⟨.hbm, 390, rfl⟩
abbrev main_v355 : Ref sig .tc := ⟨.hbm, 391, rfl⟩
abbrev main_v356 : Ref sig .tc := ⟨.hbm, 392, rfl⟩
abbrev main_v357 : Ref sig .tc := ⟨.hbm, 393, rfl⟩
abbrev main_v358 : Ref sig .tc := ⟨.hbm, 394, rfl⟩
abbrev main_v359 : Ref sig .tc := ⟨.hbm, 395, rfl⟩
abbrev main_v360 : Ref sig .tc := ⟨.hbm, 396, rfl⟩
abbrev main_v361 : Ref sig .tc := ⟨.hbm, 397, rfl⟩
abbrev main_v362 : Ref sig .tc := ⟨.hbm, 398, rfl⟩
abbrev main_v363 : Ref sig .tc := ⟨.hbm, 399, rfl⟩
abbrev main_v364 : Ref sig .tc := ⟨.hbm, 400, rfl⟩
abbrev main_v365 : Ref sig .tc := ⟨.hbm, 401, rfl⟩
abbrev main_v366 : Ref sig .tc := ⟨.hbm, 402, rfl⟩
abbrev main_v367 : Ref sig .tc := ⟨.hbm, 403, rfl⟩
abbrev main_v368 : Ref sig .tc := ⟨.hbm, 404, rfl⟩
abbrev main_v369 : Ref sig .tc := ⟨.hbm, 405, rfl⟩
abbrev main_v370 : Ref sig .tc := ⟨.hbm, 406, rfl⟩
abbrev main_v371 : Ref sig .tc := ⟨.hbm, 407, rfl⟩
abbrev main_v372 : Ref sig .tc := ⟨.hbm, 408, rfl⟩
abbrev main_v373 : Ref sig .tc := ⟨.hbm, 409, rfl⟩
abbrev main_v374 : Ref sig .tc := ⟨.hbm, 410, rfl⟩
abbrev main_v375 : Ref sig .tc := ⟨.hbm, 411, rfl⟩
abbrev main_v376 : Ref sig .tc := ⟨.hbm, 412, rfl⟩
abbrev main_v377 : Ref sig .tc := ⟨.hbm, 413, rfl⟩
abbrev main_v378 : Ref sig .tc := ⟨.hbm, 414, rfl⟩
abbrev main_v379 : Ref sig .tc := ⟨.hbm, 415, rfl⟩
abbrev main_v380 : Ref sig .tc := ⟨.hbm, 416, rfl⟩
abbrev main_v381 : Ref sig .tc := ⟨.hbm, 417, rfl⟩
abbrev main_v382 : Ref sig .tc := ⟨.hbm, 418, rfl⟩
abbrev main_cst_23 : Ref sig .tc := ⟨.hbm, 419, rfl⟩
abbrev main_v383 : Ref sig .tc := ⟨.hbm, 420, rfl⟩
abbrev main_v384 : Ref sig .tc := ⟨.hbm, 421, rfl⟩
abbrev main_v385 : Ref sig .tc := ⟨.hbm, 422, rfl⟩
abbrev main_v386 : Ref sig .tc := ⟨.hbm, 423, rfl⟩
abbrev main_v387 : Ref sig .tc := ⟨.hbm, 424, rfl⟩
abbrev main_v388 : Ref sig .tc := ⟨.hbm, 425, rfl⟩
abbrev main_v389 : Ref sig .tc := ⟨.hbm, 426, rfl⟩
abbrev main_v390 : Ref sig .tc := ⟨.hbm, 427, rfl⟩
abbrev main_v391 : Ref sig .tc := ⟨.hbm, 428, rfl⟩
abbrev main_v392 : Ref sig .tc := ⟨.hbm, 429, rfl⟩
abbrev main_v393 : Ref sig .tc := ⟨.hbm, 430, rfl⟩
abbrev main_v394 : Ref sig .tc := ⟨.hbm, 431, rfl⟩
abbrev main_v395 : Ref sig .tc := ⟨.hbm, 432, rfl⟩

abbrev nD : Nat := 1
abbrev τ : Topo := Topo.v7x

variable {F : FTy → Type} [FloatOps F]
-- ==== Proof.Body0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-!
# The body of the level-0 call

Two runs of the body, by whether the grid point is the first one.  At the first point the body stores the
row block of the two head outputs and, in five pieces, the whole anchor array; at a later point it stores
the row block only, and the anchor buffer stays as it was.
-/

@[expose] public section

set_option maxRecDepth 16384

noncomputable section

namespace Cert.KernelIdeal.Level0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Runs

variable (c : Dev nD) (i : grid0.Coords)
  (arg1 : Memref sig .tc .vmem S256x16384 .f32) (harg1 : arg1.IsWhole)
  (arg2 : Memref sig .tc .vmem S9x256x256 .bf16) (harg2 : arg2.IsWhole)
  (arg3 : Memref sig .tc .vmem S256x1 .f32) (harg3 : arg3.IsWhole)
  (arg4 : Memref sig .tc .vmem S75x256 .bf16) (harg4 : arg4.IsWhole)
  (arg5 : Memref sig .tc .vmem S75x1 .f32) (harg5 : arg5.IsWhole)
  (arg6 : Memref sig .tc .vmem S1x15x16x128 .f32) (harg6 : arg6.IsWhole)
  (arg7 : Memref sig .tc .vmem S1x60x16x128 .f32) (harg7 : arg7.IsWhole)
  (arg8 : Memref sig .tc .vmem S4x327360 .f32) (harg8 : arg8.IsWhole)
  (x0 : Vec F S256x16384 .f32) (x1 : Vec F S9x256x256 .bf16) (x2 : Vec F S256x1 .f32)
  (x3 : Vec F S75x256 .bf16) (x4 : Vec F S75x1 .f32)

set_option maxHeartbeats 1000000 in
/-- The run at the first grid point: the stores into the three output buffers, latest first, with the
    statement that the body leaves exactly these and keeps its inputs. -/
def runFirst (hc : k0_cond1 i = 1#1) :
    Σ' (L5 : List (View.Piece (Elt F) S1x15x16x128 .f32)) (L6 : List (View.Piece (Elt F) S1x60x16x128 .f32)),
    { L7 : List (View.Piece (Elt F) S4x327360 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1
              ∗ owns (c : Thread nD τ) arg3 fullShare x2 ∗ owns (c : Thread nD τ) arg4 fullShare x3
              ∗ owns (c : Thread nD τ) arg5 fullShare x4
              ∗ (∃ f, arg6.view.loc (c : Thread nD τ) ↦[arg6.view.set]{fullShare} arg6.view.writes (Elt F) f L5)
              ∗ (∃ f, arg7.view.loc (c : Thread nD τ) ↦[arg7.view.set]{fullShare} arg7.view.writes (Elt F) f L6)
              ∗ (∃ f, arg8.view.loc (c : Thread nD τ) ↦[arg8.view.set]{fullShare} arg8.view.writes (Elt F) f L7)) -∗ K ⟨⟩))
          ⊢ wp frame (wpE (defs₀ (F := F)) Variants.none c none) E
              (cc0__body_l0 i arg1 harg1 arg2 harg2 arg3 harg3 arg4 harg4 arg5 harg5 arg6 harg6 arg7 harg7 arg8 harg8) K } := by
  refine ⟨?_, ?_, ?_, fun E K => ?run⟩
  case run =>
    simp only [cc0__body_l0_eq_skeleton]; unfold cc0__body_l0_skel
    simp only [k0_part9_eq_skeleton, k0_part10_eq_skeleton, k0_part11_eq_skeleton, k0_part8_eq_skeleton,
      k0_part1_eq_skeleton, k0_part2_eq_skeleton, k0_part3_eq_skeleton, k0_part4_eq_skeleton,
      k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

set_option maxHeartbeats 1000000 in
/-- The run at a later grid point: the stores into the two head outputs; the anchor buffer is not touched. -/
def runLater (hc : ¬ k0_cond1 i = 1#1) :
    Σ' (L5 : List (View.Piece (Elt F) S1x15x16x128 .f32)),
    { L6 : List (View.Piece (Elt F) S1x60x16x128 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ (∃ d, owns (c : Thread nD τ) arg6 fullShare d)
            ∗ (∃ d, owns (c : Thread nD τ) arg7 fullShare d)
            ∗ (iprop(owns (c : Thread nD τ) arg1 fullShare x0 ∗ owns (c : Thread nD τ) arg2 fullShare x1
              ∗ owns (c : Thread nD τ) arg3 fullShare x2 ∗ owns (c : Thread nD τ) arg4 fullShare x3
              ∗ owns (c : Thread nD τ) arg5 fullShare x4
              ∗ (∃ f, arg6.view.loc (c : Thread nD τ) ↦[arg6.view.set]{fullShare} arg6.view.writes (Elt F) f L5)
              ∗ (∃ f, arg7.view.loc (c : Thread nD τ) ↦[arg7.view.set]{fullShare} arg7.view.writes (Elt F) f L6)) -∗ K ⟨⟩))
          ⊢ wp frame (wpE (defs₀ (F := F)) Variants.none c none) E
              (cc0__body_l0 i arg1 harg1 arg2 harg2 arg3 harg3 arg4 harg4 arg5 harg5 arg6 harg6 arg7 harg7 arg8 harg8) K } := by
  refine ⟨?_, ?_, fun E K => ?run⟩
  case run =>
    simp only [cc0__body_l0_eq_skeleton]; unfold cc0__body_l0_skel
    simp only [k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

end Runs

end Cert.KernelIdeal.Level0

end
-- ==== Proof.Region0.lean ====
module

public import proofs.«01_k».proof.Proof.Body0
public import Idealize.ShloMosaic.Lib.Pipeline.TableIdle

/-!
# The level-0 call, point by point

What every staging buffer holds before and after each of the eight grid points, and the obligation that the
body meets it.  The anchor buffer is filled at the first point, left alone afterwards, and written back at
the last point.
-/

@[expose] public section

set_option maxRecDepth 16384

noncomputable section

namespace Cert.KernelIdeal.Level0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-- The block of window `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The anchor branch is taken at the first point only. -/
theorem first_iff : ∀ t : Fin cfg0.N, k0_cond1 (grid0.coords t) = 1#1 ↔ t = t0_0 :=
  (by decide +kernel : ∀ t : Fin grid0.N, k0_cond1 (grid0.coords t) = 1#1 ↔ t = t0_0)

/-- The run at the first point, on the point's buffers and blocks. -/
abbrev first (c : Dev nD) (t : Fin cfg0.N) (h : k0_cond1 (grid0.coords t) = 1#1) :=
  runFirst (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (iblk V c 0 t) (iblk V c 1 t) (iblk V c 2 t) (iblk V c 3 t) (iblk V c 4 t) h

/-- The run at a later point, on the point's buffers and blocks. -/
abbrev later (c : Dev nD) (t : Fin cfg0.N) (h : ¬ k0_cond1 (grid0.coords t) = 1#1) :=
  runLater (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (iblk V c 0 t) (iblk V c 1 t) (iblk V c 2 t) (iblk V c 3 t) (iblk V c 4 t) h

/-- The logits' stores at point `t`. -/
def stores5 (c : Dev nD) (t : Fin cfg0.N) : List (View.Piece (Elt F) S1x15x16x128 .f32) :=
  if h : k0_cond1 (grid0.coords t) = 1#1 then (first V c t h).1 else (later V c t h).1

/-- The boxes' stores at point `t`. -/
def stores6 (c : Dev nD) (t : Fin cfg0.N) : List (View.Piece (Elt F) S1x60x16x128 .f32) :=
  if h : k0_cond1 (grid0.coords t) = 1#1 then (first V c t h).2.1 else (later V c t h).2.1

/-- The anchors' stores at the first point. -/
def stores7 (c : Dev nD) : List (View.Piece (Elt F) S4x327360 .f32) :=
  (first V c t0_0 ((first_iff t0_0).mpr rfl)).2.2.1

/-- The logits' block is stored whole. -/
theorem cover5 (c : Dev nD) (t : Fin cfg0.N) (y : S1x15x16x128.Idx) : ∃ pc ∈ stores5 V c t, y ∈ pc.1.set := by
  unfold stores5
  split
  · exact View.cover_of_tiledL (first V c t _).1 S1x15x16x128.size (by sl_kernel_rfl) y
  · exact View.cover_of_tiledL (later V c t _).1 S1x15x16x128.size (by sl_kernel_rfl) y

/-- The boxes' block is stored whole. -/
theorem cover6 (c : Dev nD) (t : Fin cfg0.N) (y : S1x60x16x128.Idx) : ∃ pc ∈ stores6 V c t, y ∈ pc.1.set := by
  unfold stores6
  split
  · exact View.cover_of_tiledL (first V c t _).2.1 S1x60x16x128.size (by sl_kernel_rfl) y
  · exact View.cover_of_tiledL (later V c t _).2.1 S1x60x16x128.size (by sl_kernel_rfl) y

/-- The five anchor pieces fill the anchor array. -/
theorem cover7 (c : Dev nD) (y : S4x327360.Idx) : ∃ pc ∈ stores7 V c, y ∈ pc.1.set :=
  View.cover_of_tiledBy (stores7 V c) ![4, 960] (by sl_kernel_rfl) y

/-- The logits' block after point `t`. -/
def out5 (c : Dev nD) (t : Fin cfg0.N) : Vec F S1x15x16x128 .f32 :=
  (Memref.whole cc0_stg5_0 : Memref sig .tc .vmem S1x15x16x128 .f32).view.read (Elt F)
    ((Memref.whole cc0_stg5_0 : Memref sig .tc .vmem S1x15x16x128 .f32).view.writes (Elt F)
      (Memref.whole cc0_stg5_0 : Memref sig .tc .vmem S1x15x16x128 .f32).view.junk (stores5 V c t))

/-- The boxes' block after point `t`. -/
def out6 (c : Dev nD) (t : Fin cfg0.N) : Vec F S1x60x16x128 .f32 :=
  (Memref.whole cc0_stg6_0 : Memref sig .tc .vmem S1x60x16x128 .f32).view.read (Elt F)
    ((Memref.whole cc0_stg6_0 : Memref sig .tc .vmem S1x60x16x128 .f32).view.writes (Elt F)
      (Memref.whole cc0_stg6_0 : Memref sig .tc .vmem S1x60x16x128 .f32).view.junk (stores6 V c t))

/-- The anchor array after the first point, and from then on. -/
def out7 (c : Dev nD) : Vec F S4x327360 .f32 :=
  (Memref.whole cc0_stg7_0 : Memref sig .tc .vmem S4x327360 .f32).view.read (Elt F)
    ((Memref.whole cc0_stg7_0 : Memref sig .tc .vmem S4x327360 .f32).view.writes (Elt F)
      (Memref.whole cc0_stg7_0 : Memref sig .tc .vmem S4x327360 .f32).view.junk (stores7 V c))

/-- The call's data: the arrays as found, the inputs' blocks kept, the outputs as stored. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 V c t
    | ⟨6, _⟩ => out6 V c t
    | ⟨7, _⟩ => out7 V c
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = out5 V c t := by dsimp only [dat]
theorem after_6 (c : Dev nD) (t : Fin cfg0.N) : (dat V c).after 6 t = out6 V c t := by dsimp only [dat]
theorem after_7 (c : Dev nD) (t : Fin cfg0.N) : (dat V c).after 7 t = out7 V c := by dsimp only [dat]

-- an input's buffer holds its block at every point
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; rfl)

/-- After the first point the anchor buffer holds the anchors. -/
theorem before_7 (c : Dev nD) (t : Fin cfg0.N) (ht : t ≠ t0_0) (d) : (dat V c).before 7 t d = out7 V c := by
  rw [(dat V c).before_out_traj 7 rfl (fun _ _ => rfl) (fun t h _ _ => by rw [after_7, after_7]) t.val t rfl d,
    if_neg, after_7]
  rw [(by decide +kernel : ∀ t : Fin grid0.N, t ≠ t0_0 → cfg0.fresh 7 t.val = false) t ht]
  exact Bool.false_ne_true

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ (dat V c).leavesExact 7 t)

/-- At the first point the anchor window is stored. -/
theorem leaves_first (c : Dev nD) (t : Fin cfg0.N) (h : k0_cond1 (grid0.coords t) = 1#1) :
    ((dat V c).leavesExact 7 t : sProp 𝕄) = owns (c : Thread nD τ) (st0_7 t) fullShare (out7 V c) := by
  unfold Dat.leavesExact
  rw [show cfg0.idle 7 (cfg0.grid.coords t) = false from by
    show (!(k0_cond1 (grid0.coords t) == 1#1)) = false
    rw [h]; rfl, after_7]

/-- At a later point the anchor window is left as found. -/
theorem leaves_later (c : Dev nD) (t : Fin cfg0.N) (h : ¬ k0_cond1 (grid0.coords t) = 1#1) :
    owns (c : Thread nD τ) (st0_7 t) fullShare (out7 V c) ⊢ ((dat V c).leavesExact 7 t : sProp 𝕄) := by
  have ht : t ≠ t0_0 := fun e => h ((first_iff t).mpr e)
  unfold Dat.leavesExact
  rw [show cfg0.idle 7 (cfg0.grid.coords t) = true from by
    show (!(k0_cond1 (grid0.coords t) == 1#1)) = true
    rw [Bool.not_eq_true', beq_eq_false_iff_ne]; exact h]
  cases (cfg0.win 7).flush t
  · iintro H; iexists (fun _ => default); rw [before_7 V c t ht]; iexact H
  · rw [after_7]

set_option maxHeartbeats 1000000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  have c5 := cover5 V c t
  have c6 := cover6 V c t
  by_cases h : k0_cond1 (grid0.coords t) = 1#1
  · rw [leaves_first V c t h]
    unfold stores5 at c5; unfold stores6 at c6; unfold out5 out6 stores5 stores6
    simp only [dif_pos h] at c5 c6 ⊢
    obtain rfl := (first_iff t).mp h
    have c7 := cover7 V c
    unfold out7 stores7; unfold stores7 at c7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((first V c t0_0 h).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ c5
    isplitl [H6]
    · unfold owns; iexists _; isplitr
      swap; · iexact H6
      ipureintro; exact View.read_writes_of_cover _ _ _ _ _ c6
    unfold owns; iexists _; isplitr
    swap; · iexact H7
    ipureintro; exact View.read_writes_of_cover _ _ _ _ _ c7
  · have hl := leaves_later V c t h
    have hb := before_7 V c t fun e => h ((first_iff t).mpr e)
    simp only [hb]
    unfold stores5 at c5; unfold stores6 at c6; unfold out5 out6 stores5 stores6
    simp only [dif_neg h] at c5 c6 ⊢
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((later V c t h).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ c5
    isplitl [H6]
    · unfold owns; iexists _; isplitr
      swap; · iexact H6
      ipureintro; exact View.read_writes_of_cover _ _ _ _ _ c6
    iapply hl; iexact H7

/-- The body table's row is the body. -/
theorem defs₀_row (t : Fin cfg0.N) : defs₀ (F := F) .tc cfg0.body (cfg0.bodyArgs t (cfg0.slots t)) = bodyAt0 t := by
  unfold defs₀; rw [Defs.onTc_tc]

/-- The body meets its obligation at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Level0

end
-- ==== Proof.Body1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-!
# The body of the call for the four smaller levels

One grid point.  The body stores each of its eight outputs once, whole.
-/

@[expose] public section

set_option maxRecDepth 16384

noncomputable section

namespace Cert.KernelIdeal.Tails

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Runs

variable (c : Dev nD) (i : grid1.Coords)
  (arg1 : Memref sig .tc .vmem S256x4096 .f32) (harg1 : arg1.IsWhole)
  (arg2 : Memref sig .tc .vmem S256x1024 .f32) (harg2 : arg2.IsWhole)
  (arg3 : Memref sig .tc .vmem S256x256 .f32) (harg3 : arg3.IsWhole)
  (arg4 : Memref sig .tc .vmem S256x64 .f32) (harg4 : arg4.IsWhole)
  (arg5 : Memref sig .tc .vmem S9x256x256 .bf16) (harg5 : arg5.IsWhole)
  (arg6 : Memref sig .tc .vmem S256x1 .f32) (harg6 : arg6.IsWhole)
  (arg7 : Memref sig .tc .vmem S75x256 .bf16) (harg7 : arg7.IsWhole)
  (arg8 : Memref sig .tc .vmem S75x1 .f32) (harg8 : arg8.IsWhole)
  (arg9 : Memref sig .tc .vmem S1x15x64x64 .f32) (harg9 : arg9.IsWhole)
  (arg10 : Memref sig .tc .vmem S1x15x32x32 .f32) (harg10 : arg10.IsWhole)
  (arg11 : Memref sig .tc .vmem S1x15x16x16 .f32) (harg11 : arg11.IsWhole)
  (arg12 : Memref sig .tc .vmem S1x15x8x8 .f32) (harg12 : arg12.IsWhole)
  (arg13 : Memref sig .tc .vmem S1x60x64x64 .f32) (harg13 : arg13.IsWhole)
  (arg14 : Memref sig .tc .vmem S1x60x32x32 .f32) (harg14 : arg14.IsWhole)
  (arg15 : Memref sig .tc .vmem S1x60x16x16 .f32) (harg15 : arg15.IsWhole)
  (arg16 : Memref sig .tc .vmem S1x60x8x8 .f32) (harg16 : arg16.IsWhole)
  (x0 : Vec F S256x4096 .f32) (x1 : Vec F S256x1024 .f32) (x2 : Vec F S256x256 .f32) (x3 : Vec F S256x64 .f32) (x4 : Vec F S9x256x256 .bf16) (x5 : Vec F S256x1 .f32) (x6 : Vec F S75x256 .bf16) (x7 : Vec F S75x1 .f32)

set_option maxHeartbeats 4000000 in
/-- The run: the store into each output buffer, with the statement that the body leaves exactly these and
    keeps its inputs. -/
def run :
    Σ' (L8 : List (View.Piece (Elt F) S1x15x64x64 .f32))
      (L9 : List (View.Piece (Elt F) S1x15x32x32 .f32))
      (L10 : List (View.Piece (Elt F) S1x15x16x16 .f32))
      (L11 : List (View.Piece (Elt F) S1x15x8x8 .f32))
      (L12 : List (View.Piece (Elt F) S1x60x64x64 .f32))
      (L13 : List (View.Piece (Elt F) S1x60x32x32 .f32))
      (L14 : List (View.Piece (Elt F) S1x60x16x16 .f32)),
    { L15 : List (View.Piece (Elt F) S1x60x8x8 .f32) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ (∃ d, owns (c : Thread nD τ) arg9 fullShare d)
          ∗ (∃ d, owns (c : Thread nD τ) arg10 fullShare d)
          ∗ (∃ d, owns (c : Thread nD τ) arg11 fullShare d)
          ∗ (∃ d, owns (c : Thread nD τ) arg12 fullShare d)
          ∗ (∃ d, owns (c : Thread nD τ) arg13 fullShare d)
          ∗ (∃ d, owns (c : Thread nD τ) arg14 fullShare d)
          ∗ (∃ d, owns (c : Thread nD τ) arg15 fullShare d)
          ∗ (∃ d, owns (c : Thread nD τ) arg16 fullShare d)
          ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ owns (c : Thread nD τ) arg7 fullShare x6
              ∗ owns (c : Thread nD τ) arg8 fullShare x7
              ∗ (∃ f, arg9.view.loc (c : Thread nD τ) ↦[arg9.view.set]{fullShare} arg9.view.writes (Elt F) f L8)
              ∗ (∃ f, arg10.view.loc (c : Thread nD τ) ↦[arg10.view.set]{fullShare} arg10.view.writes (Elt F) f L9)
              ∗ (∃ f, arg11.view.loc (c : Thread nD τ) ↦[arg11.view.set]{fullShare} arg11.view.writes (Elt F) f L10)
              ∗ (∃ f, arg12.view.loc (c : Thread nD τ) ↦[arg12.view.set]{fullShare} arg12.view.writes (Elt F) f L11)
              ∗ (∃ f, arg13.view.loc (c : Thread nD τ) ↦[arg13.view.set]{fullShare} arg13.view.writes (Elt F) f L12)
              ∗ (∃ f, arg14.view.loc (c : Thread nD τ) ↦[arg14.view.set]{fullShare} arg14.view.writes (Elt F) f L13)
              ∗ (∃ f, arg15.view.loc (c : Thread nD τ) ↦[arg15.view.set]{fullShare} arg15.view.writes (Elt F) f L14)
              ∗ (∃ f, arg16.view.loc (c : Thread nD τ) ↦[arg16.view.set]{fullShare} arg16.view.writes (Elt F) f L15)) -∗ K ⟨⟩))
          ⊢ wp frame (wpE (defs₀ (F := F)) Variants.none c none) E
              (cc1__body_tails i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun E K => ?run⟩
  case run =>
    simp only [cc1__body_tails_eq_skeleton]; unfold cc1__body_tails_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
      ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

end Runs

end Cert.KernelIdeal.Tails

end
-- ==== Proof.Region1.lean ====
module

public import proofs.«01_k».proof.Proof.Body1

/-!
# The call for the four smaller levels

What every staging buffer holds before and after the one grid point, and the obligation that the body meets it.
-/

@[expose] public section

set_option maxRecDepth 16384

noncomputable section

namespace Cert.KernelIdeal.Tails

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-- The block of window `w` at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The run on the point's buffers and blocks. -/
abbrev runAt (c : Dev nD) (t : Fin cfg1.N) :=
  run (F := F) c (grid1.coords t)
    (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5))
    (st1_6 t) (hstage1_6 ((cfg1.slots t 6).cast nbuf1_6)) (st1_7 t) (hstage1_7 ((cfg1.slots t 7).cast nbuf1_7))
    (st1_8 t) (hstage1_8 ((cfg1.slots t 8).cast nbuf1_8)) (st1_9 t) (hstage1_9 ((cfg1.slots t 9).cast nbuf1_9))
    (st1_10 t) (hstage1_10 ((cfg1.slots t 10).cast nbuf1_10)) (st1_11 t) (hstage1_11 ((cfg1.slots t 11).cast nbuf1_11))
    (st1_12 t) (hstage1_12 ((cfg1.slots t 12).cast nbuf1_12)) (st1_13 t) (hstage1_13 ((cfg1.slots t 13).cast nbuf1_13))
    (st1_14 t) (hstage1_14 ((cfg1.slots t 14).cast nbuf1_14)) (st1_15 t) (hstage1_15 ((cfg1.slots t 15).cast nbuf1_15))
    (iblk V c 0 t) (iblk V c 1 t) (iblk V c 2 t) (iblk V c 3 t) (iblk V c 4 t) (iblk V c 5 t) (iblk V c 6 t) (iblk V c 7 t)

/-- The logits of level 1 are stored whole. -/
theorem cover8 (c : Dev nD) (t : Fin cfg1.N) (y : S1x15x64x64.Idx) : ∃ pc ∈ (runAt V c t).1, y ∈ pc.1.set :=
  View.cover_of_tiledL (runAt V c t).1 S1x15x64x64.size (by sl_kernel_rfl) y

/-- The logits of level 1 after the point. -/
def out8 (c : Dev nD) (t : Fin cfg1.N) : Vec F S1x15x64x64 .f32 :=
  (Memref.whole cc1_stg8_0 : Memref sig .tc .vmem S1x15x64x64 .f32).view.read (Elt F)
    ((Memref.whole cc1_stg8_0 : Memref sig .tc .vmem S1x15x64x64 .f32).view.writes (Elt F)
      (Memref.whole cc1_stg8_0 : Memref sig .tc .vmem S1x15x64x64 .f32).view.junk (runAt V c t).1)

/-- The logits of level 2 are stored whole. -/
theorem cover9 (c : Dev nD) (t : Fin cfg1.N) (y : S1x15x32x32.Idx) : ∃ pc ∈ (runAt V c t).2.1, y ∈ pc.1.set :=
  View.cover_of_tiledL (runAt V c t).2.1 S1x15x32x32.size (by sl_kernel_rfl) y

/-- The logits of level 2 after the point. -/
def out9 (c : Dev nD) (t : Fin cfg1.N) : Vec F S1x15x32x32 .f32 :=
  (Memref.whole cc1_stg9_0 : Memref sig .tc .vmem S1x15x32x32 .f32).view.read (Elt F)
    ((Memref.whole cc1_stg9_0 : Memref sig .tc .vmem S1x15x32x32 .f32).view.writes (Elt F)
      (Memref.whole cc1_stg9_0 : Memref sig .tc .vmem S1x15x32x32 .f32).view.junk (runAt V c t).2.1)

/-- The logits of level 3 are stored whole. -/
theorem cover10 (c : Dev nD) (t : Fin cfg1.N) (y : S1x15x16x16.Idx) : ∃ pc ∈ (runAt V c t).2.2.1, y ∈ pc.1.set :=
  View.cover_of_tiledL (runAt V c t).2.2.1 S1x15x16x16.size (by sl_kernel_rfl) y

/-- The logits of level 3 after the point. -/
def out10 (c : Dev nD) (t : Fin cfg1.N) : Vec F S1x15x16x16 .f32 :=
  (Memref.whole cc1_stg10_0 : Memref sig .tc .vmem S1x15x16x16 .f32).view.read (Elt F)
    ((Memref.whole cc1_stg10_0 : Memref sig .tc .vmem S1x15x16x16 .f32).view.writes (Elt F)
      (Memref.whole cc1_stg10_0 : Memref sig .tc .vmem S1x15x16x16 .f32).view.junk (runAt V c t).2.2.1)

/-- The logits of level 4 are stored whole. -/
theorem cover11 (c : Dev nD) (t : Fin cfg1.N) (y : S1x15x8x8.Idx) : ∃ pc ∈ (runAt V c t).2.2.2.1, y ∈ pc.1.set :=
  View.cover_of_tiledL (runAt V c t).2.2.2.1 S1x15x8x8.size (by sl_kernel_rfl) y

/-- The logits of level 4 after the point. -/
def out11 (c : Dev nD) (t : Fin cfg1.N) : Vec F S1x15x8x8 .f32 :=
  (Memref.whole cc1_stg11_0 : Memref sig .tc .vmem S1x15x8x8 .f32).view.read (Elt F)
    ((Memref.whole cc1_stg11_0 : Memref sig .tc .vmem S1x15x8x8 .f32).view.writes (Elt F)
      (Memref.whole cc1_stg11_0 : Memref sig .tc .vmem S1x15x8x8 .f32).view.junk (runAt V c t).2.2.2.1)

/-- The boxes of level 1 are stored whole. -/
theorem cover12 (c : Dev nD) (t : Fin cfg1.N) (y : S1x60x64x64.Idx) : ∃ pc ∈ (runAt V c t).2.2.2.2.1, y ∈ pc.1.set :=
  View.cover_of_tiledL (runAt V c t).2.2.2.2.1 S1x60x64x64.size (by sl_kernel_rfl) y

/-- The boxes of level 1 after the point. -/
def out12 (c : Dev nD) (t : Fin cfg1.N) : Vec F S1x60x64x64 .f32 :=
  (Memref.whole cc1_stg12_0 : Memref sig .tc .vmem S1x60x64x64 .f32).view.read (Elt F)
    ((Memref.whole cc1_stg12_0 : Memref sig .tc .vmem S1x60x64x64 .f32).view.writes (Elt F)
      (Memref.whole cc1_stg12_0 : Memref sig .tc .vmem S1x60x64x64 .f32).view.junk (runAt V c t).2.2.2.2.1)

/-- The boxes of level 2 are stored whole. -/
theorem cover13 (c : Dev nD) (t : Fin cfg1.N) (y : S1x60x32x32.Idx) : ∃ pc ∈ (runAt V c t).2.2.2.2.2.1, y ∈ pc.1.set :=
  View.cover_of_tiledL (runAt V c t).2.2.2.2.2.1 S1x60x32x32.size (by sl_kernel_rfl) y

/-- The boxes of level 2 after the point. -/
def out13 (c : Dev nD) (t : Fin cfg1.N) : Vec F S1x60x32x32 .f32 :=
  (Memref.whole cc1_stg13_0 : Memref sig .tc .vmem S1x60x32x32 .f32).view.read (Elt F)
    ((Memref.whole cc1_stg13_0 : Memref sig .tc .vmem S1x60x32x32 .f32).view.writes (Elt F)
      (Memref.whole cc1_stg13_0 : Memref sig .tc .vmem S1x60x32x32 .f32).view.junk (runAt V c t).2.2.2.2.2.1)

/-- The boxes of level 3 are stored whole. -/
theorem cover14 (c : Dev nD) (t : Fin cfg1.N) (y : S1x60x16x16.Idx) : ∃ pc ∈ (runAt V c t).2.2.2.2.2.2.1, y ∈ pc.1.set :=
  View.cover_of_tiledL (runAt V c t).2.2.2.2.2.2.1 S1x60x16x16.size (by sl_kernel_rfl) y

/-- The boxes of level 3 after the point. -/
def out14 (c : Dev nD) (t : Fin cfg1.N) : Vec F S1x60x16x16 .f32 :=
  (Memref.whole cc1_stg14_0 : Memref sig .tc .vmem S1x60x16x16 .f32).view.read (Elt F)
    ((Memref.whole cc1_stg14_0 : Memref sig .tc .vmem S1x60x16x16 .f32).view.writes (Elt F)
      (Memref.whole cc1_stg14_0 : Memref sig .tc .vmem S1x60x16x16 .f32).view.junk (runAt V c t).2.2.2.2.2.2.1)

/-- The boxes of level 4 are stored whole. -/
theorem cover15 (c : Dev nD) (t : Fin cfg1.N) (y : S1x60x8x8.Idx) : ∃ pc ∈ (runAt V c t).2.2.2.2.2.2.2.1, y ∈ pc.1.set :=
  View.cover_of_tiledL (runAt V c t).2.2.2.2.2.2.2.1 S1x60x8x8.size (by sl_kernel_rfl) y

/-- The boxes of level 4 after the point. -/
def out15 (c : Dev nD) (t : Fin cfg1.N) : Vec F S1x60x8x8 .f32 :=
  (Memref.whole cc1_stg15_0 : Memref sig .tc .vmem S1x60x8x8 .f32).view.read (Elt F)
    ((Memref.whole cc1_stg15_0 : Memref sig .tc .vmem S1x60x8x8 .f32).view.writes (Elt F)
      (Memref.whole cc1_stg15_0 : Memref sig .tc .vmem S1x60x8x8 .f32).view.junk (runAt V c t).2.2.2.2.2.2.2.1)

/-- The call's data: the arrays as found, the inputs' blocks kept, the outputs as stored. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => out8 V c t
    | ⟨9, _⟩ => out9 V c t
    | ⟨10, _⟩ => out10 V c t
    | ⟨11, _⟩ => out11 V c t
    | ⟨12, _⟩ => out12 V c t
    | ⟨13, _⟩ => out13 V c t
    | ⟨14, _⟩ => out14 V c t
    | ⟨15, _⟩ => out15 V c t
    | ⟨_ + 16, h⟩ => absurd h (Nat.not_lt.2 (Nat.le_add_left _ _))
  Φ _ := Pipeline.ΦA spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = out8 V c t := by dsimp only [dat]
theorem after_9 (c : Dev nD) (t : Fin cfg1.N) : (dat V c).after 9 t = out9 V c t := by dsimp only [dat]
theorem after_10 (c : Dev nD) (t : Fin cfg1.N) : (dat V c).after 10 t = out10 V c t := by dsimp only [dat]
theorem after_11 (c : Dev nD) (t : Fin cfg1.N) : (dat V c).after 11 t = out11 V c t := by dsimp only [dat]
theorem after_12 (c : Dev nD) (t : Fin cfg1.N) : (dat V c).after 12 t = out12 V c t := by dsimp only [dat]
theorem after_13 (c : Dev nD) (t : Fin cfg1.N) : (dat V c).after 13 t = out13 V c t := by dsimp only [dat]
theorem after_14 (c : Dev nD) (t : Fin cfg1.N) : (dat V c).after 14 t = out14 V c t := by dsimp only [dat]
theorem after_15 (c : Dev nD) (t : Fin cfg1.N) : (dat V c).after 15 t = out15 V c t := by dsimp only [dat]

-- an input's buffer holds its block
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; rfl)
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; rfl)
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; rfl)

/-- What the body is called with. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d))
    ∗ (∃ d, owns (c : Thread nD τ) (st1_15 t) fullShare ((dat V c).before 15 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t)
    ∗ owns (c : Thread nD τ) (st1_15 t) fullShare ((dat V c).after 15 t))

set_option maxHeartbeats 4000000 in
/-- The body at the point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7,
    after_8, after_9, after_10, after_11, after_12, after_13, after_14, after_15]
  unfold out8 out9 out10 out11 out12 out13 out14 out15
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runAt V c t).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover8 V c t)
  isplitl [H9]
  · unfold owns; iexists _; isplitr
    swap; · iexact H9
    ipureintro; exact View.read_writes_of_cover _ _ _ _ _ (cover9 V c t)
  isplitl [H10]
  · unfold owns; iexists _; isplitr
    swap; · iexact H10
    ipureintro; exact View.read_writes_of_cover _ _ _ _ _ (cover10 V c t)
  isplitl [H11]
  · unfold owns; iexists _; isplitr
    swap; · iexact H11
    ipureintro; exact View.read_writes_of_cover _ _ _ _ _ (cover11 V c t)
  isplitl [H12]
  · unfold owns; iexists _; isplitr
    swap; · iexact H12
    ipureintro; exact View.read_writes_of_cover _ _ _ _ _ (cover12 V c t)
  isplitl [H13]
  · unfold owns; iexists _; isplitr
    swap; · iexact H13
    ipureintro; exact View.read_writes_of_cover _ _ _ _ _ (cover13 V c t)
  isplitl [H14]
  · unfold owns; iexists _; isplitr
    swap; · iexact H14
    ipureintro; exact View.read_writes_of_cover _ _ _ _ _ (cover14 V c t)
  unfold owns; iexists _; isplitr
  swap; · iexact H15
  ipureintro; exact View.read_writes_of_cover _ _ _ _ _ (cover15 V c t)

/-- The body table's row is the body. -/
theorem defs₀_row (t : Fin cfg1.N) : defs₀ (F := F) .tc cfg1.body (cfg1.bodyArgs t (cfg1.slots t)) = bodyAt1 t := by
  unfold defs₀; rw [Defs.onTc_tc]

/-- The body meets its obligation. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.Tails

end
-- ==== Proof.Launch.lean ====
module

public import proofs.«01_k».proof.Proof.Region0
public import proofs.«01_k».proof.Proof.Region1
public import Idealize.ShloMosaic.Lib.Pipeline.RegionsLoop
public import Idealize.ShloMosaic.Lib.Pipeline.FrameSuffix

/-!
# The whole program, from launch to return

The buffers' contents at each boundary between host operations and calls, and the run: every buffer that
outlives the program ends at the last boundary's contents, and every counter ends at zero.
-/

@[expose] public section

set_option maxRecDepth 16384

noncomputable section

namespace Cert.KernelIdeal.Launched

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host operations write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

abbrev written0 : List (Ref sig .tc) := [main_v0, main_v1, main_v2, main_v3, main_v4, main_v5, main_v6, main_v7, main_v8]
abbrev written1 : List (Ref sig .tc) := [main_v10, main_v11, main_v12, main_v13]
abbrev written2 : List (Ref sig .tc) := [main_v15]

theorem hostOps0_writes : (hostOps0 : List (HloOp τ sig (Elt F))).Forall fun op => op.writes ⊆ (written0.map (Proc.devRef (τ := τ) .tc)).toFinset :=
  StableHlo.forall_writes_sub_of_map rfl
theorem hostOps1_writes : (hostOps1 : List (HloOp τ sig (Elt F))).Forall fun op => op.writes ⊆ (written1.map (Proc.devRef (τ := τ) .tc)).toFinset :=
  StableHlo.forall_writes_sub_of_map rfl
theorem hostOps2_writes : (hostOps2 : List (HloOp τ sig (Elt F))).Forall fun op => op.writes ⊆ (written2.map (Proc.devRef (τ := τ) .tc)).toFinset :=
  StableHlo.forall_writes_sub_of_map rfl

/-! ## The contents at each boundary -/

/-- At launch. -/
abbrev W0 : Dev nD → Valuation τ sig (Elt F) := fun c b => (s₀ m ρ).mem ((c : Dev nD), b)
/-- When the level-0 call is entered. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- When the level-0 call is left. -/
def W2 (c : Dev nD) : Valuation τ sig (Elt F) :=
  Pipeline.withArrays spec0 c (W1 m ρ c) fun w => (Level0.dat (V1 m ρ) c).arrAt w cfg0.N
abbrev V2 : (c : Dev nD) → (b : Ref sig .tc) → Buf (Elt F) ((c : Thread nD τ).loc b) := fun c b => W2 m ρ c b
/-- When the second call is entered. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- When the second call is left. -/
def W4 (c : Dev nD) : Valuation τ sig (Elt F) :=
  Pipeline.withArrays spec1 c (W3 m ρ c) fun w => (Tails.dat (V3 m ρ) c).arrAt w cfg1.N
abbrev V4 : (c : Dev nD) → (b : Ref sig .tc) → Buf (Elt F) ((c : Thread nD τ).loc b) := fun c b => W4 m ρ c b
/-- At the return. -/
abbrev W5 : Dev nD → Valuation τ sig (Elt F) := fun c => StableHlo.after hostOps2 (W4 m ρ c)

theorem W1_of (c : Dev nD) (r : Ref sig .tc) (h : r ∉ written0) : W1 m ρ c (Proc.devRef .tc r) = W0 m ρ c (Proc.devRef .tc r) :=
  StableHlo.after_of_writes_sub hostOps0 _ hostOps0_writes h
theorem W3_of (c : Dev nD) (r : Ref sig .tc) (h : r ∉ written1) : W3 m ρ c (Proc.devRef .tc r) = W2 m ρ c (Proc.devRef .tc r) :=
  StableHlo.after_of_writes_sub hostOps1 _ hostOps1_writes h
theorem W5_of (c : Dev nD) (r : Ref sig .tc) (h : r ∉ written2) : W5 m ρ c (Proc.devRef .tc r) = W4 m ρ c (Proc.devRef .tc r) :=
  StableHlo.after_of_writes_sub hostOps2 _ hostOps2_writes h

theorem W2_arr (c : Dev nD) (w : Fin cfg0.W) :
    W2 m ρ c (Proc.devRef .tc (Pipeline.arrRef spec0 w)) = (Level0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (Tails.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-- A buffer that is no output of the level-0 call keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((Level0.dat (V1 m ρ) c).arrAt_in w (h w rfl) _).trans (Level0.A_eq (V1 m ρ) c w))
  · exact W2_of_ne m ρ c r fun w e => hw ⟨w, e⟩
/-- A buffer that is no output of the second call keeps its contents across it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((Tails.dat (V3 m ρ) c).arrAt_in w (h w rfl) _).trans (Tails.A_eq (V3 m ρ) c w))
  · exact W4_of_ne m ρ c r fun w e => hw ⟨w, e⟩

theorem hF0 (c : Dev nD) (w : Fin cfg0.W) : (Level0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem hF1 (c : Dev nD) (w : Fin cfg1.W) : (Tails.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The program's arguments. -/
abbrev argRefs : List (Ref sig .tc) :=
  [main_arg0, main_arg1, main_arg2, main_arg3, main_arg4, main_arg5, main_arg6, main_arg7, main_arg8, main_arg9, main_arg10, main_arg11]

theorem args_not_written : ∀ a ∈ argRefs, a ∉ written0 ∧ a ∉ written1 ∧ a ∉ written2 :=
  ListAll.forall_mem_of_all_decide (by decide +kernel)
theorem args_not_out0 : ∀ a ∈ argRefs, ∀ w : Fin cfg0.W, Pipeline.arrRef spec0 w = a → (cfg0.win w).isOut = false :=
  ListAll.forall_mem_of_all_decide (by decide +kernel)
theorem args_not_out1 : ∀ a ∈ argRefs, ∀ w : Fin cfg1.W, Pipeline.arrRef spec1 w = a → (cfg1.win w).isOut = false :=
  ListAll.forall_mem_of_all_decide (by decide +kernel)

theorem W2_args (c : Dev nD) : ∀ a ∈ argRefs, W2 m ρ c (Proc.devRef .tc a) = m ((c : Thread nD τ).loc a) := fun a ha =>
  (W2_of m ρ c a (args_not_out0 a ha)).trans (W1_of m ρ c a (args_not_written a ha).1)
/-- The arguments end as launched. -/
theorem W5_args (c : Dev nD) : ∀ a ∈ argRefs, W5 m ρ c (Proc.devRef .tc a) = m ((c : Thread nD τ).loc a) := fun a ha =>
  (W5_of m ρ c a (args_not_written a ha).2.2).trans ((W4_of m ρ c a (args_not_out1 a ha)).trans
    ((W3_of m ρ c a (args_not_written a ha).2.1).trans (W2_args m ρ c a ha)))

/-! ## The segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Level0.dat (V1 m ρ) c
  | ⟨1, _⟩ => fun c => Tails.dat (V3 m ρ) c
abbrev 𝒱₀ : Variants := Variants.none
abbrev L : GSem nD τ sig → Finset Unit := fun _ => ∅
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every lasting buffer at the return's contents. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- The level-0 call as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Level0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (Level0.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Tails.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (Tails.A_eq (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

theorem no_lasting_counter : ∀ sm : SemLoc sig, sm.isScoped .tc = true := by decide

set_option backward.isDefEq.respectTransparency.types false in
/-- The run: every lasting buffer ends at the return's contents, every counter at zero. -/
theorem run : θ_run defs (onTc (τ := τ) (main (F := F))) ⟨m, fun _ => 0, ρ⟩ (fun r =>
      (∀ (c : Dev nD) (b : Ref sig .tc), ¬ (Proc.devRef .tc b : DevRef τ sig).isScoped →
        r.2.mem ((c.tc : Thread nD τ).loc b) = W5 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c _ (mem_uc b hb), funext fun g => hz g (.inr (no_lasting_counter g.2))⟩)

/-- The arguments end as launched and every counter at zero. -/
theorem unchanged : θ_run defs (onTc (τ := τ) (main (F := F))) ⟨m, fun _ => 0, ρ⟩ (fun r =>
      (∀ (c : Dev nD), ∀ a ∈ argRefs, r.2.mem ((c.tc : Thread nD τ).loc a) = m ((c.tc : Thread nD τ).loc a))
      ∧ r.2.sem = fun _ => 0) :=
  (θ_run defs _ _).mono (fun _ h => ⟨fun c a ha =>
    (h.1 c a ((ListAll.forall_mem_of_all_decide (by decide +kernel) :
      ∀ a ∈ argRefs, ¬ (Proc.devRef .tc a : DevRef τ sig).isScoped) a ha)).trans (W5_args m ρ c a ha), h.2⟩) (run m ρ)

end Cert.KernelIdeal.Launched

end
-- ==== Proof.Frames.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch
public import Idealize.ShloMosaic.Lib.Quiescent

/-!
# The three frames

Each program ends with its arguments as launched and its counters at zero. The kernel and its ideal reading
are one text at two kinds of floats, so the kernel's run is the ideal text's run read at machine floats.
-/

@[expose] public section

set_option maxRecDepth 100000
set_option maxHeartbeats 4000000

noncomputable section

namespace Cert.Frames

open Idealize.ShloMosaic Idealize.SL.Sem

/-! ## The kernel's text is the ideal text -/

section Same

variable {F : FTy → Type} [FloatOps F] (hK : Cert.Kernel.Facts) (hI : Cert.KernelIdeal.Facts)

theorem main_same : @Cert.Kernel.main F _ hK = @Cert.KernelIdeal.main F _ hI := by rfl

theorem bodies_same : @Cert.Kernel.defs₀ F _ hK = @Cert.KernelIdeal.defs₀ F _ hI := by
  unfold Cert.Kernel.defs₀ Cert.KernelIdeal.defs₀
  refine congrArg Defs.onTc ?_
  funext l a
  match l, a with
  | 0, (t, s) => rfl
  | 1, (t, s) => rfl

theorem defs_same : @Cert.Kernel.defs F _ hK = @Cert.KernelIdeal.defs F _ hI := by
  unfold Cert.Kernel.defs Cert.KernelIdeal.defs
  exact congrArg (Pipeline.defs (@Cert.KernelIdeal.pcfgs F hI)) (bodies_same hK hI)

theorem run_same (m : (ℓ : Loc Cert.KernelIdeal.nD Cert.KernelIdeal.τ Cert.KernelIdeal.sig) → Buf (Elt F) ℓ)
    (g : Dev Cert.KernelIdeal.nD → PrngReg)
    (Q : PUnit × MemSt Cert.KernelIdeal.nD Cert.KernelIdeal.τ Cert.KernelIdeal.sig (Elt F) → Prop)
    (h : θ_run (@Cert.KernelIdeal.defs F _ hI) (onTc (τ := Cert.KernelIdeal.τ) (@Cert.KernelIdeal.main F _ hI)) ⟨m, fun _ => 0, g⟩ Q) :
    θ_run (@Cert.Kernel.defs F _ hK) (onTc (τ := Cert.Kernel.τ) (@Cert.Kernel.main F _ hK)) ⟨m, fun _ => 0, g⟩ Q := by
  rw [defs_same hK hI, main_same hK hI]; exact h

end Same

/-! ## The frames -/

/-- A property of every argument is the property of each. -/
theorem each_arg {p : Ref Cert.KernelIdeal.sig .tc → Prop} (h : ∀ a ∈ Cert.KernelIdeal.Launched.argRefs, p a) :
    p Cert.KernelIdeal.main_arg0 ∧ p Cert.KernelIdeal.main_arg1 ∧ p Cert.KernelIdeal.main_arg2 ∧ p Cert.KernelIdeal.main_arg3
      ∧ p Cert.KernelIdeal.main_arg4 ∧ p Cert.KernelIdeal.main_arg5 ∧ p Cert.KernelIdeal.main_arg6 ∧ p Cert.KernelIdeal.main_arg7
      ∧ p Cert.KernelIdeal.main_arg8 ∧ p Cert.KernelIdeal.main_arg9 ∧ p Cert.KernelIdeal.main_arg10 ∧ p Cert.KernelIdeal.main_arg11 := by
  simpa only [Cert.KernelIdeal.Launched.argRefs, List.forall_mem_cons, List.not_mem_nil, false_imp_iff, implies_true, and_true] using h

theorem kernelIdeal : Cert.quiescent_KernelIdeal := fun m g _ =>
  (θ_run Cert.KernelIdeal.defs _ _).mono (fun _ h => ⟨fun c => each_arg (h.1 c), h.2⟩)
    (Cert.KernelIdeal.Launched.unchanged m g)

theorem kernel : Cert.quiescent_Kernel := fun m g _ =>
  run_same Cert.Kernel.Gen.facts Cert.KernelIdeal.Gen.facts m g _
    ((θ_run Cert.KernelIdeal.defs _ _).mono (fun _ h => ⟨fun c => each_arg (h.1 c), h.2⟩)
      (Cert.KernelIdeal.Launched.unchanged (F := Bits) m g))

theorem referenceIdeal : Cert.quiescent_ReferenceIdeal := fun m g _ =>
  (θ_run Cert.ReferenceIdeal.defs _ _).mono
    (fun r h => ⟨fun c => (h c).2.2.2.2.2.2.2.2.2.2.2, sem_eq_zero_of_no_sems (by decide) r.2⟩)
    (Cert.ReferenceIdeal.Value.run m g)

end Cert.Frames

end
-- ==== Proof.Convolution.lean ====
module

public import Idealize.ShloMosaic.Lib.Pointwise

/-!
# The head of one level, as mathematics

A level has a feature array `X c i j` on a `g × g` grid. The head is the 3 × 3 convolution of `X`, with zeros
all around it, plus a bias, cut below at zero, then a matrix `H` and a second bias. The kernel keeps the grid in
one row of `g · g` lanes and takes the nine products by lanes: the row above is `g` lanes back, the row below
`g` lanes on, and the columns beside are reached by moving the finished sums by one lane. The lemmas here say
that both ways give one sum. They need no finiteness: a product with a zero is zero for every extended real,
and sums may be regrouped.
-/

@[expose] public section

noncomputable section

namespace Cert.Level

open Idealize.ShloMosaic

/-- The feature array with a border of zeros; row and column count from the border. -/
def bordered (g : ℕ) (X : Fin 256 → ℕ → ℕ → EReal) (c : Fin 256) (a b : ℕ) : EReal :=
  if 1 ≤ a ∧ a ≤ g ∧ 1 ≤ b ∧ b ≤ g then X c (a - 1) (b - 1) else 0

/-- One of the nine products of the convolution. -/
def tap (g : ℕ) (W : Fin 3 → Fin 3 → Fin 256 → Fin 256 → EReal) (X : Fin 256 → ℕ → ℕ → EReal) (o : Fin 256) (i j : ℕ)
    (dy dx : Fin 3) : EReal :=
  ∑ c, W dy dx o c * bordered g X c (i + dy) (j + dx)

/-- The convolution at output channel `o`, row `i`, column `j`. -/
def conv (g : ℕ) (W : Fin 3 → Fin 3 → Fin 256 → Fin 256 → EReal) (X : Fin 256 → ℕ → ℕ → EReal) (o : Fin 256) (i j : ℕ) : EReal :=
  ∑ dy, ∑ dx, tap g W X o i j dy dx

/-- The head: convolution, bias, cut at zero, one row of the second matrix, second bias. -/
def head (g : ℕ) (W : Fin 3 → Fin 3 → Fin 256 → Fin 256 → EReal) (B : Fin 256 → EReal) (H : Fin 256 → EReal) (b : EReal)
    (X : Fin 256 → ℕ → ℕ → EReal) (i j : ℕ) : EReal :=
  ∑ o, H o * max (conv g W X o i j + B o) 0 + b

variable {g : ℕ} {X : Fin 256 → ℕ → ℕ → EReal}

theorem bordered_inside {c : Fin 256} {a b : ℕ} (ha : 1 ≤ a) (ha' : a ≤ g) (hb : 1 ≤ b) (hb' : b ≤ g) :
    bordered g X c a b = X c (a - 1) (b - 1) := if_pos ⟨ha, ha', hb, hb'⟩

theorem bordered_outside {c : Fin 256} {a b : ℕ} (h : ¬ (1 ≤ a ∧ a ≤ g ∧ 1 ≤ b ∧ b ≤ g)) : bordered g X c a b = 0 := if_neg h

/-! ## The row of lanes -/

/-- `L c n` is the feature array laid out in one row of lanes, with zeros after its end. -/
structure IsRow (g : ℕ) (L : Fin 256 → ℕ → EReal) (X : Fin 256 → ℕ → ℕ → EReal) : Prop where
  inside : ∀ c i j, i < g → j < g → L c (i * g + j) = X c i j
  after : ∀ c n, g * g ≤ n → L c n = 0

variable {L : Fin 256 → ℕ → EReal}

/-- The lane one grid row back, or zero in the first grid row. -/
theorem IsRow.up (h : IsRow g L X) (c : Fin 256) {i b n : ℕ} (hi : i < g) (hb : 1 ≤ b) (hb' : b ≤ g) (hn : n + 1 = i * g + b) :
    (if g ≤ n then L c (n - g) else 0) = bordered g X c i b := by
  rcases Nat.eq_zero_or_pos i with rfl | hpos
  · rw [bordered_outside (by omega), if_neg (by omega)]
  · obtain ⟨k, rfl⟩ : ∃ k, i = k + 1 := ⟨i - 1, by omega⟩
    rw [Nat.succ_mul] at hn
    rw [if_pos (by omega), bordered_inside (by omega) (by omega) hb hb', show n - g = k * g + (b - 1) by omega,
      h.inside c k (b - 1) (by omega) (by omega)]
    rfl

/-- The lane itself. -/
theorem IsRow.mid (h : IsRow g L X) (c : Fin 256) {i b n : ℕ} (hi : i < g) (hb : 1 ≤ b) (hb' : b ≤ g) (hn : n + 1 = i * g + b) :
    L c n = bordered g X c (i + 1) b := by
  rw [bordered_inside (by omega) (by omega) hb hb', show n = i * g + (b - 1) by omega, h.inside c i (b - 1) hi (by omega)]
  rfl

/-- The lane one grid row on; past the end it is zero. -/
theorem IsRow.down (h : IsRow g L X) (c : Fin 256) {i b n : ℕ} (hi : i < g) (hb : 1 ≤ b) (hb' : b ≤ g) (hn : n + 1 = i * g + b) :
    L c (n + g) = bordered g X c (i + 2) b := by
  by_cases hl : i + 1 = g
  · rw [bordered_outside (by omega), h.after]
    subst hl; rw [Nat.succ_mul (n := i)]; omega
  · rw [bordered_inside (by omega) (by omega) hb hb', show n + g = (i + 1) * g + (b - 1) by rw [Nat.succ_mul]; omega,
      h.inside c (i + 1) (b - 1) (by omega) (by omega)]
    rfl

/-! ## The kernel's sum -/

variable {W : Fin 3 → Fin 3 → Fin 256 → Fin 256 → EReal}

/-- The sums of one column offset, from the three lanes. -/
theorem column (o : Fin 256) (i j : ℕ) (dx : Fin 3) (m x p : Fin 256 → EReal)
    (hm : ∀ c, m c = bordered g X c i (j + dx)) (hx : ∀ c, x c = bordered g X c (i + 1) (j + dx))
    (hp : ∀ c, p c = bordered g X c (i + 2) (j + dx)) :
    ∑ c, W 0 dx o c * m c + ∑ c, W 1 dx o c * x c + ∑ c, W 2 dx o c * p c = ∑ dy, tap g W X o i j dy dx := by
  rw [Fin.sum_univ_three, funext hm, funext hx, funext hp]; rfl

/-- A column offset whose column lies in the border adds nothing. -/
theorem column_border (o : Fin 256) (i j : ℕ) (dx : Fin 3) (h : j + (dx : ℕ) = 0 ∨ g < j + dx) :
    ∑ dy, tap g W X o i j dy dx = 0 :=
  Finset.sum_eq_zero fun dy _ => Finset.sum_eq_zero fun c _ => by rw [bordered_outside (by omega), mul_zero]

/-- The kernel's three columns, the outer two dropped where they would leave the grid, are the convolution. -/
theorem conv_of_columns (o : Fin 256) {i j : ℕ} (c0 c2 : BitVec 1) (s0 s1 s2 : EReal)
    (h0 : c0 = 1#1 ↔ j ≠ 0) (h2 : c2 = 1#1 ↔ j + 1 ≠ g) (hj : j < g)
    (hs0 : j ≠ 0 → s0 = ∑ dy, tap g W X o i j dy 0) (hs1 : s1 = ∑ dy, tap g W X o i j dy 1)
    (hs2 : j + 1 ≠ g → s2 = ∑ dy, tap g W X o i j dy 2) :
    Scalar.select c0 s0 0 + s1 + Scalar.select c2 s2 0 = conv g W X o i j := by
  have e0 : Scalar.select c0 s0 0 = ∑ dy, tap g W X o i j dy 0 := by
    unfold Scalar.select
    by_cases hz : j = 0
    · exact (if_neg fun h => h0.mp h hz).trans (column_border o i j 0 (.inl (by rw [hz]; rfl))).symm
    · exact (if_pos (h0.mpr hz)).trans (hs0 hz)
  have e2 : Scalar.select c2 s2 0 = ∑ dy, tap g W X o i j dy 2 := by
    unfold Scalar.select
    by_cases hz : j + 1 = g
    · exact (if_neg fun h => h2.mp h hz).trans (column_border o i j 2 (.inr (by rw [← hz]; exact Nat.lt_succ_self _))).symm
    · exact (if_pos (h2.mpr hz)).trans (hs2 hz)
  rw [e0, hs1, e2, conv, Finset.sum_comm, Fin.sum_univ_three (f := fun dx => ∑ dy, tap g W X o i j dy dx)]

end Cert.Level

end
-- ==== Proof.Lanes.lean ====
module

public import proofs.«01_k».proof.Proof.Convolution
public import Idealize.ShloMosaic.Lib.WordCmp
public import Idealize.ShloMosaic.Lib.Affine

/-!
# A row of lanes, read from a block

The kernel holds a level as 256 rows of `N` lanes. Words stand for the lane numbers; a rotated row with part of
it struck out is the row one grid row back, or one on.
-/

@[expose] public section

noncomputable section

namespace Cert.Level

open Idealize.ShloMosaic Idealize.ShloMosaic.WordCmp

/-- Lane `n` of row `c`, zero after the end. -/
def lane {N : ℕ} (x : (⟨2, ![256, N]⟩ : Shape).Idx → EReal) (c : Fin 256) (n : ℕ) : EReal :=
  if h : n < N then x (ix2 c ⟨n, h⟩) else 0

variable {N : ℕ} {x : (⟨2, ![256, N]⟩ : Shape).Idx → EReal} {c : Fin 256}

theorem lane_of_lt {n : ℕ} (h : n < N) : lane x c n = x (ix2 c ⟨n, h⟩) := dif_pos h

/-- Moved on by `g` lanes, the first `g` struck out. -/
theorem select_back {n g : ℕ} (hn : n < N) (hN : N < 2 ^ 31) (hg : g < N) {h : (n + N - g) % N < N} :
    Scalar.select (IntOp.cmpi .sge (BitVec.ofNat 32 n) (BitVec.ofNat 32 g)) (x (ix2 c ⟨(n + N - g) % N, h⟩)) 0
      = if g ≤ n then lane x c (n - g) else 0 := by
  by_cases hl : g ≤ n
  · have e : (n + N - g) % N = n - g := by
      rw [show n + N - g = (n - g) + N by omega, Nat.add_mod_right, Nat.mod_eq_of_lt (by omega)]
    rw [if_pos hl, lane_of_lt (by omega)]
    refine (if_pos ((cmpi_sge_ofNat_eq_one_iff (w := 32) (by omega) (by omega)).mpr hl)).trans ?_
    exact congrArg (fun k => x (ix2 c k)) (Fin.ext e)
  · rw [if_neg hl]
    exact if_neg fun h => hl ((cmpi_sge_ofNat_eq_one_iff (w := 32) (by omega) (by omega)).mp h)

/-- Moved back by `g` lanes (on by `k = N - g`), the last `g` struck out. -/
theorem select_on {n g k : ℕ} (hn : n < N) (hN : N < 2 ^ 31) (hg : g < N) (hg0 : 0 < g) (hk : k = N - g) {h : (n + N - k) % N < N} :
    Scalar.select (IntOp.cmpi .slt (BitVec.ofNat 32 n) (BitVec.ofNat 32 k)) (x (ix2 c ⟨(n + N - k) % N, h⟩)) 0
      = lane x c (n + g) := by
  by_cases hl : n < k
  · have e : (n + N - k) % N = n + g := by
      rw [show n + N - k = n + g by omega, Nat.mod_eq_of_lt (by omega)]
    rw [lane_of_lt (by omega)]
    refine (if_pos ((cmpi_slt_ofNat_eq_one_iff (w := 32) (by omega) (by omega)).mpr hl)).trans ?_
    exact congrArg (fun k => x (ix2 c k)) (Fin.ext e)
  · rw [lane, dif_neg (by omega)]
    exact if_neg fun h => hl ((cmpi_slt_ofNat_eq_one_iff (w := 32) (by omega) (by omega)).mp h)

/-- A row of `g · g` lanes is its grid laid out row by row. -/
theorem isRow_lane {g : ℕ} {X : Fin 256 → ℕ → ℕ → EReal} (hN : N = g * g)
    (h : ∀ (c : Fin 256) (i j : ℕ), i < g → j < g → ∀ hb : i * g + j < N, x (ix2 c ⟨i * g + j, hb⟩) = X c i j) :
    IsRow g (lane x) X where
  inside c i j hi hj := by
    have hb : i * g + j < N := by
      have := Nat.mul_le_mul_right g (Nat.succ_le_of_lt hi)
      rw [Nat.succ_mul] at this; omega
    rw [lane_of_lt hb, h c i j hi hj hb]
  after c n hn := dif_neg (by omega)

/-! ## The column of a lane -/

/-- The kernel's floored remainder of words, as it is written out. -/
def flooredRem (x d : BitVec 32) : BitVec 32 :=
  let e := Scalar.select (Scalar.cmpi .eq d 0#32) 1#32 d
  let r := IntOp.remsi .vector x e
  Scalar.select
    (IntOp.andi (IntOp.xori (IntOp.cmpi .slt r 0#32) (Scalar.cmpi .slt e 0#32)) (IntOp.cmpi .ne r 0#32))
    (IntOp.addi r e) r

/-- On words of naturals it is the remainder. -/
theorem flooredRem_ofNat {n g : ℕ} (hn : n < 2 ^ 31) (hg0 : 0 < g) (hg : g < 2 ^ 31) :
    flooredRem (BitVec.ofNat 32 n) (BitVec.ofNat 32 g) = BitVec.ofNat 32 (n % g) := by
  have e : Scalar.select (Scalar.cmpi .eq (BitVec.ofNat 32 g) 0#32) 1#32 (BitVec.ofNat 32 g) = BitVec.ofNat 32 g :=
    if_neg fun h => by
      have h' := congrArg BitVec.toNat (IntOp.cmpi_eq.mp h)
      rw [BitVec.toNat_ofNat, Nat.mod_eq_of_lt (by omega)] at h'
      exact absurd h' (by simpa using hg0.ne')
  have r : IntOp.remsi .vector (BitVec.ofNat 32 n) (BitVec.ofNat 32 g) = BitVec.ofNat 32 (n % g) := by
    apply BitVec.eq_of_toNat_eq
    have hm := Nat.mod_lt n hg0
    rw [IntOp.toNat_remsi _ (by rw [BitVec.toNat_ofNat]; omega) g hg0 (by omega), BitVec.toNat_ofNat, BitVec.toNat_ofNat,
      Nat.mod_eq_of_lt (by omega : n < 2 ^ 32), Nat.mod_eq_of_lt (by omega : n % g < 2 ^ 32)]
  unfold flooredRem
  rw [e]; dsimp only; rw [r]
  refine if_neg fun h => ?_
  have hm := Nat.mod_lt n hg0
  have h1 : IntOp.cmpi .slt (BitVec.ofNat 32 (n % g)) 0#32 = 0#1 := (cmpi_slt_ofNat_eq_zero_iff (w := 32) (by omega) (by decide)).mpr (by omega)
  have h2 : Scalar.cmpi .slt (BitVec.ofNat 32 g) 0#32 = 0#1 := (cmpi_slt_ofNat_eq_zero_iff (w := 32) (by omega) (by decide)).mpr (by omega)
  rw [h1, h2] at h
  exact absurd (IntOp.andi_eq_one.mp h).1 (by decide)

/-- Two small naturals' words differ when the naturals do. -/
theorem ne_word_iff {a b : ℕ} (ha : a < 2 ^ 32) (hb : b < 2 ^ 32) :
    IntOp.cmpi .ne (BitVec.ofNat 32 a) (BitVec.ofNat 32 b) = 1#1 ↔ a ≠ b := by
  rw [IntOp.cmpi_ne, ne_eq, ne_eq, not_iff_not]
  refine ⟨fun h => ?_, fun h => congrArg _ h⟩
  have h' := congrArg BitVec.toNat h
  rwa [BitVec.toNat_ofNat, BitVec.toNat_ofNat, Nat.mod_eq_of_lt ha, Nat.mod_eq_of_lt hb] at h'

/-- The column of lane `i · g + j`. -/
theorem column_of_lane {g i j : ℕ} (hj : j < g) : (i * g + j) % g = j := by
  rw [Nat.add_comm, Nat.add_mul_mod_self_right, Nat.mod_eq_of_lt hj]

/-- One lane back, where the row does not begin. -/
theorem one_back {n : ℕ} (h : n ≠ 0) (hn : n < N) : (n + N - 1) % N = n - 1 := by
  rw [show n + N - 1 = (n - 1) + N by omega, Nat.add_mod_right, Nat.mod_eq_of_lt (by omega)]

/-- One lane on, where the row does not end. -/
theorem one_on {n k : ℕ} (hk : k + 1 = N) (hn : n + 1 < N) : (n + N - k) % N = n + 1 := by
  rw [show n + N - k = n + 1 by omega, Nat.mod_eq_of_lt hn]

/-! ## The head, as the kernel takes it -/

/-- The three sums of one column offset at lane `n`: the weights `u`, `v`, `w` on the grid row above, on the lane's own
    and on the one below. -/
def columnSum (g : ℕ) (u v w : Fin 256 → EReal) (L : Fin 256 → ℕ → EReal) (n : ℕ) : EReal :=
  ∑ c, u c * (if g ≤ n then L c (n - g) else 0) + ∑ c, v c * L c n + ∑ c, w c * L c (n + g)

/-- They are the column's three products, where the column lies inside the grid. -/
theorem columnSum_eq {g : ℕ} {L : Fin 256 → ℕ → EReal} {X : Fin 256 → ℕ → ℕ → EReal} (hL : IsRow g L X)
    (W : Fin 3 → Fin 3 → Fin 256 → Fin 256 → EReal) (o : Fin 256) {i j n : ℕ} (dx : Fin 3) (hi : i < g) (h1 : 1 ≤ j + (dx : ℕ))
    (hg : j + (dx : ℕ) ≤ g) (hn : n + 1 = i * g + (j + dx)) :
    columnSum g (W 0 dx o) (W 1 dx o) (W 2 dx o) L n = ∑ dy, tap g W X o i j dy dx :=
  column o i j dx (fun c => if g ≤ n then L c (n - g) else 0) (fun c => L c n) (fun c => L c (n + g))
    (fun c => hL.up c hi h1 hg hn) (fun c => hL.mid c hi h1 hg hn) (fun c => hL.down c hi h1 hg hn)

/-- The kernel's head at lane `n = i · g + j`, read off its lanes, is the level's head at `(i, j)`. The three columns
    are summed at lane `n - 1`, at `n` and at `n + 1`, wherever those are used. -/
theorem head_of_lanes {g : ℕ} {L : Fin 256 → ℕ → EReal} {X : Fin 256 → ℕ → ℕ → EReal} (hL : IsRow g L X)
    (w : Fin 9 → Fin 256 → Fin 256 → EReal) (B H : Fin 256 → EReal) (b : EReal) {i j n l r : ℕ} (hi : i < g) (hj : j < g)
    (hn : n = i * g + j) (hg : g < 2 ^ 31) (hl : j ≠ 0 → l = n - 1) (hr : j + 1 ≠ g → r = n + 1) {k : ℕ} (hk : k + 1 = g) :
    ∑ t, H t * max
        (Scalar.select (IntOp.cmpi .ne (BitVec.ofNat 32 (n % g)) 0#32) (columnSum g (w 0 t) (w 3 t) (w 6 t) L l) 0
          + columnSum g (w 1 t) (w 4 t) (w 7 t) L n
          + Scalar.select (IntOp.cmpi .ne (BitVec.ofNat 32 (n % g)) (BitVec.ofNat 32 k)) (columnSum g (w 2 t) (w 5 t) (w 8 t) L r) 0
          + B t) 0 + b
      = head g (fun dy dx t c => w ⟨3 * dy + dx, by omega⟩ t c) B H b X i j := by
  unfold head
  refine congrArg (· + b) (Finset.sum_congr rfl fun t _ => congrArg (fun a => H t * max (a + B t) 0) ?_)
  rw [show n % g = j by rw [hn, column_of_lane hj]]
  refine conv_of_columns t _ _ _ _ _ (ne_word_iff (by omega) (by decide)) ((ne_word_iff (by omega) (by omega)).trans (by omega)) hj
    (fun h => ?_) ?_ (fun h => ?_)
  · exact columnSum_eq hL (fun dy dx t c => w ⟨3 * dy + dx, by omega⟩ t c) t 0 hi (Nat.one_le_iff_ne_zero.mpr h) hj.le
      (by have := hl h; simp only [Fin.val_zero]; omega)
  · exact columnSum_eq hL (fun dy dx t c => w ⟨3 * dy + dx, by omega⟩ t c) t 1 hi (Nat.le_add_left 1 j) hj
      (by simp only [Fin.val_one]; omega)
  · exact columnSum_eq hL (fun dy dx t c => w ⟨3 * dy + dx, by omega⟩ t c) t 2 hi (by simp only [Fin.val_two]; omega)
      (by simp only [Fin.val_two]; omega) (by have := hr h; simp only [Fin.val_two]; omega)

end Cert.Level

end
-- ==== Proof.TailPieces.lean ====
module

public import proofs.«01_k».proof.Proof.Region1
public import proofs.«01_k».proof.Proof.Lanes
public import Idealize.ShloMosaic.Lib.Pipeline.ValueKit

/-!
# What the four smaller levels share

The convolution's nine matrices as the body reads them out of the array of kernels, and the level's head as a function
of the level's array of lanes.
-/

@[expose] public section

set_option maxRecDepth 16384

noncomputable section

namespace Cert.KernelIdeal.Tails

open Cert.KernelIdeal.Gen Cert.Level
open Idealize.ShloMosaic Idealize.ShloMosaic.TcCoe Idealize.ShloMosaic.Tactic

variable (w : Vec Ideal S9x256x256 .bf16)

/-! The nine matrices, row by row of the 3×3 window. -/

abbrev K0 := View.ld w (Rect.unit ![0, 0, 0] ![1, 256, 256] inb_S9x256x256_S1x256x256_0_0_0)
abbrev K1 := View.ld w (Rect.unit ![1, 0, 0] ![1, 256, 256] inb_S9x256x256_S1x256x256_1_0_0)
abbrev K2 := View.ld w (Rect.unit ![2, 0, 0] ![1, 256, 256] inb_S9x256x256_S1x256x256_2_0_0)
abbrev K3 := View.ld w (Rect.unit ![3, 0, 0] ![1, 256, 256] inb_S9x256x256_S1x256x256_3_0_0)
abbrev K4 := View.ld w (Rect.unit ![4, 0, 0] ![1, 256, 256] inb_S9x256x256_S1x256x256_4_0_0)
abbrev K5 := View.ld w (Rect.unit ![5, 0, 0] ![1, 256, 256] inb_S9x256x256_S1x256x256_5_0_0)
abbrev K6 := View.ld w (Rect.unit ![6, 0, 0] ![1, 256, 256] inb_S9x256x256_S1x256x256_6_0_0)
abbrev K7 := View.ld w (Rect.unit ![7, 0, 0] ![1, 256, 256] inb_S9x256x256_S1x256x256_7_0_0)
abbrev K8 := View.ld w (Rect.unit ![8, 0, 0] ![1, 256, 256] inb_S9x256x256_S1x256x256_8_0_0)

/-- Row `o` of the 75 outputs at pixel `(i, j)` of a `g × g` level holding `X`, from the call's four shared arrays. -/
def headOf (g : ℕ) (cb : Vec Ideal S256x1 .f32) (wh : Vec Ideal S75x256 .bf16) (hb : Vec Ideal S75x1 .f32)
    (X : Fin 256 → ℕ → ℕ → EReal) (o : Fin 75) (i j : ℕ) : EReal :=
  head g (fun dy dx t c => w (ix3 ⟨3 * dy + dx, by omega⟩ t c)) (fun t => cb (ix2 t 0)) (fun t => wh (ix2 o t)) (hb (ix2 o 0)) X i j

end Cert.KernelIdeal.Tails

end
-- ==== Proof.Outputs.lean ====
module

public import proofs.«01_k».proof.Proof.Lanes

/-!
# A level's outputs from the arguments

`output` is what both programs are shown to return: entry `(o, i, j)` of a level's logits or boxes, as the head over the
rectified 3×3 convolution of the level's pixels.
-/

@[expose] public section

noncomputable section

namespace Cert.Level

open Idealize.ShloMosaic

/-- The pixels of a level, zero beyond its sides. -/
def pixels {g : ℕ} (A : (⟨4, ![1, 256, g, g]⟩ : Shape).Idx → EReal) (c : Fin 256) (a b : ℕ) : EReal :=
  if h : a < g ∧ b < g then A (ix4 0 c ⟨a, h.1⟩ ⟨b, h.2⟩) else 0

theorem pixels_of_lt {g : ℕ} (A : (⟨4, ![1, 256, g, g]⟩ : Shape).Idx → EReal) (c : Fin 256) {a b : ℕ} (ha : a < g) (hb : b < g) :
    pixels A c a b = A (ix4 0 c ⟨a, ha⟩ ⟨b, hb⟩) := dif_pos ⟨ha, hb⟩

/-- Output `o` at pixel `(i, j)` of a level `A`, from the convolution's weights and biases and the output's. -/
def output {g n : ℕ} (A : (⟨4, ![1, 256, g, g]⟩ : Shape).Idx → EReal) (W : (⟨4, ![256, 256, 3, 3]⟩ : Shape).Idx → EReal)
    (B : (⟨1, ![256]⟩ : Shape).Idx → EReal) (H : (⟨2, ![n, 256]⟩ : Shape).Idx → EReal) (b : (⟨1, ![n]⟩ : Shape).Idx → EReal)
    (o : Fin n) (i j : Fin g) : EReal :=
  head g (fun dy dx t c => W (ix4 t c dy dx)) (fun t => B (ix1 t)) (fun t => H (ix2 o t)) (b (ix1 o)) (pixels A) i j

/-- The whole array of outputs of a level. -/
def outputs {g n : ℕ} (A : (⟨4, ![1, 256, g, g]⟩ : Shape).Idx → EReal) (W : (⟨4, ![256, 256, 3, 3]⟩ : Shape).Idx → EReal)
    (B : (⟨1, ![256]⟩ : Shape).Idx → EReal) (H : (⟨2, ![n, 256]⟩ : Shape).Idx → EReal) (b : (⟨1, ![n]⟩ : Shape).Idx → EReal) :
    (⟨4, ![1, n, g, g]⟩ : Shape).Idx → EReal :=
  fun y => output A W B H b (y 1) (y 2) (y 3)

theorem eq_outputs {g n : ℕ} {A : (⟨4, ![1, 256, g, g]⟩ : Shape).Idx → EReal} {W : (⟨4, ![256, 256, 3, 3]⟩ : Shape).Idx → EReal}
    {B : (⟨1, ![256]⟩ : Shape).Idx → EReal} {H : (⟨2, ![n, 256]⟩ : Shape).Idx → EReal} {b : (⟨1, ![n]⟩ : Shape).Idx → EReal}
    {f : (⟨4, ![1, n, g, g]⟩ : Shape).Idx → EReal} (h : ∀ o i j, f (ix4 0 o i j) = output A W B H b o i j) : f = outputs A W B H b := by
  funext y
  have e : y = ix4 0 (y 1) (y 2) (y 3) := by
    funext a
    fin_cases a
    · exact Subsingleton.elim (α := Fin 1) _ _
    all_goals rfl
  exact (congrArg f e).trans (h (y 1) (y 2) (y 3))

/-- A row of lanes that holds a level's pixels one grid row after the other. -/
theorem isRow_pixels {g N : ℕ} (x : (⟨2, ![256, N]⟩ : Shape).Idx → EReal) (A : (⟨4, ![1, 256, g, g]⟩ : Shape).Idx → EReal)
    (hN : N = g * g) (hg : 0 < g)
    (h : ∀ (c : Fin 256) (n : Fin N) (ha : n / g < g), x (ix2 c n) = A (ix4 0 c ⟨n / g, ha⟩ ⟨n % g, Nat.mod_lt _ hg⟩)) :
    IsRow g (lane x) (pixels A) :=
  isRow_lane hN fun c i j hi hj hb => by
    have e1 : (i * g + j) / g = i := by
      rw [Nat.mul_comm, Nat.mul_add_div hg, Nat.div_eq_of_lt hj, Nat.add_zero]
    have e2 : (i * g + j) % g = j := by
      rw [Nat.mul_comm, Nat.mul_add_mod, Nat.mod_eq_of_lt hj]
    rw [h c ⟨i * g + j, hb⟩ (by rw [e1]; exact hi), pixels_of_lt A c hi hj]
    congr 2 <;> exact Fin.ext (by assumption)

/-- A level's pixels with a border of zeros laid about them. -/
theorem bordered_pixels {g : ℕ} (A : (⟨4, ![1, 256, g, g]⟩ : Shape).Idx → EReal) (c : Fin 256) (a b : ℕ) :
    (if h : (1 ≤ a ∧ a - 1 < g) ∧ 1 ≤ b ∧ b - 1 < g then A (ix4 0 c ⟨a - 1, h.1.2⟩ ⟨b - 1, h.2.2⟩) else 0)
      = bordered g (pixels A) c a b := by
  by_cases h : (1 ≤ a ∧ a - 1 < g) ∧ 1 ≤ b ∧ b - 1 < g
  · rw [dif_pos h, bordered_inside (by omega) (by omega) (by omega) (by omega), pixels_of_lt A c h.1.2 h.2.2]
  · rw [dif_neg h, bordered_outside (by omega)]

/-- The nine products of the convolution, added up in the window's order. -/
theorem conv_of_nine (g : ℕ) (W : Fin 3 → Fin 3 → Fin 256 → Fin 256 → EReal) (X : Fin 256 → ℕ → ℕ → EReal) (t : Fin 256) (i j : ℕ) :
    ∑ c, W 0 0 t c * bordered g X c i j + ∑ c, W 0 1 t c * bordered g X c i (1 + j) + ∑ c, W 0 2 t c * bordered g X c i (2 + j)
        + ∑ c, W 1 0 t c * bordered g X c (1 + i) j + ∑ c, W 1 1 t c * bordered g X c (1 + i) (1 + j)
        + ∑ c, W 1 2 t c * bordered g X c (1 + i) (2 + j)
        + ∑ c, W 2 0 t c * bordered g X c (2 + i) j + ∑ c, W 2 1 t c * bordered g X c (2 + i) (1 + j)
        + ∑ c, W 2 2 t c * bordered g X c (2 + i) (2 + j)
      = conv g W X t i j := by
  simp only [conv, tap, Fin.sum_univ_three, Fin.val_zero, Fin.val_one, Fin.val_two, Nat.add_zero, Nat.add_comm 1, Nat.add_comm 2,
    add_assoc]

end Cert.Level

end
-- ==== Proof.HostArrays.lean ====
module

public import proofs.«01_k».proof.Proof.Launch
public import proofs.«01_k».proof.Proof.TailPieces
public import proofs.«01_k».proof.Proof.Outputs
public import Idealize.ShloMosaic.Lib.Pipeline.ValueKit
public import Idealize.ShloMosaic.Lib.StableHlo.ReadAt

/-!
# The arrays the calls are handed

Each is a rearrangement of the arguments: a level's pixels in one row of lanes, the nine matrices of the 3×3 window one
under the other, the logits' and the boxes' rows of weights one under the other.
-/

@[expose] public section

set_option maxRecDepth 100000

noncomputable section

namespace Cert.KernelIdeal.Launched

open Cert.KernelIdeal.Gen Cert.Level
open Idealize.ShloMosaic Idealize.ShloMosaic.TcCoe Idealize.ShloMosaic.Tactic

variable (m : (ℓ : Loc nD τ sig) → Buf (Elt Ideal) ℓ) (ρ : Dev nD → PrngReg) (c : Dev nD)

/-! ## The arguments at the calls -/

/-- Matrix `k` of the convolution is position `(k / 3, k % 3)` of the window. -/
theorem kernels_at (k : Fin 9) (t ch : Fin 256) :
    (V1 m ρ c main_v2 : Vec Ideal S9x256x256 .bf16) (ix3 k t ch)
      = (m ((c : Thread nD τ).loc main_arg6) : Vec Ideal S256x256x3x3 .f32) (ix4 t ch ⟨k / 3, by omega⟩ ⟨k % 3, by omega⟩) := by
  unfold V1 W1 hostOps0
  after_reads_at

/-- The convolution's biases. -/
theorem bias_at (t : Fin 256) :
    (V1 m ρ c main_v3 : Vec Ideal S256x1 .f32) (ix2 t 0)
      = (m ((c : Thread nD τ).loc main_arg7) : Vec Ideal S256 .f32) (ix1 t) := by
  unfold V1 W1 hostOps0
  after_reads_at

/-- The first fifteen rows of weights are the logits'. -/
theorem rows_logits (o : Fin 15) (t : Fin 256) :
    (V1 m ρ c main_v5 : Vec Ideal S75x256 .bf16) (ix2 ⟨o, by omega⟩ t)
      = (m ((c : Thread nD τ).loc main_arg8) : Vec Ideal S15x256 .f32) (ix2 o t) := by
  unfold V1 W1 hostOps0
  after_reads_at
  after_reads_simp

/-- The other sixty are the boxes'. -/
theorem rows_boxes (o : Fin 60) (t : Fin 256) :
    (V1 m ρ c main_v5 : Vec Ideal S75x256 .bf16) (ix2 ⟨15 + o, by omega⟩ t)
      = (m ((c : Thread nD τ).loc main_arg10) : Vec Ideal S60x256 .f32) (ix2 o t) := by
  unfold V1 W1 hostOps0
  after_reads_at
  after_reads_simp

/-- So with their biases. -/
theorem shift_logits (o : Fin 15) :
    (V1 m ρ c main_v7 : Vec Ideal S75x1 .f32) (ix2 ⟨o, by omega⟩ 0)
      = (m ((c : Thread nD τ).loc main_arg9) : Vec Ideal S15 .f32) (ix1 o) := by
  unfold V1 W1 hostOps0
  after_reads_at
  after_reads_simp

/-- So with their biases. -/
theorem shift_boxes (o : Fin 60) :
    (V1 m ρ c main_v7 : Vec Ideal S75x1 .f32) (ix2 ⟨15 + o, by omega⟩ 0)
      = (m ((c : Thread nD τ).loc main_arg11) : Vec Ideal S60 .f32) (ix1 o) := by
  unfold V1 W1 hostOps0
  after_reads_at
  after_reads_simp

/-! ## The levels -/

theorem level128 (ch : Fin 256) (n : Fin 16384) :
    (V1 m ρ c main_v8 : Vec Ideal S256x16384 .f32) (ix2 ch n)
      = (m ((c : Thread nD τ).loc main_arg1) : Vec Ideal S1x256x128x128 .f32) (ix4 0 ch ⟨n / 128, by omega⟩ ⟨n % 128, by omega⟩) := by
  unfold V1 W1 hostOps0
  after_reads_at

/-- Level 128×128's lanes are its pixels. -/
theorem row128 : IsRow 128 (lane (V1 m ρ c main_v8 : Vec Ideal S256x16384 .f32)) (pixels (m ((c : Thread nD τ).loc main_arg1) : Vec Ideal S1x256x128x128 .f32)) :=
  isRow_pixels _ _ rfl (by decide) fun ch n _ => level128 m ρ c ch n

theorem level64 (ch : Fin 256) (n : Fin 4096) :
    (V3 m ρ c main_v10 : Vec Ideal S256x4096 .f32) (ix2 ch n)
      = (m ((c : Thread nD τ).loc main_arg2) : Vec Ideal S1x256x64x64 .f32) (ix4 0 ch ⟨n / 64, by omega⟩ ⟨n % 64, by omega⟩) := by
  unfold V3 W3 hostOps1
  after_reads_at
  exact congrFun (W2_args m ρ c main_arg2 (by decide)) _

/-- Level 64×64's lanes are its pixels. -/
theorem row64 : IsRow 64 (lane (V3 m ρ c main_v10 : Vec Ideal S256x4096 .f32)) (pixels (m ((c : Thread nD τ).loc main_arg2) : Vec Ideal S1x256x64x64 .f32)) :=
  isRow_pixels _ _ rfl (by decide) fun ch n _ => level64 m ρ c ch n

theorem level32 (ch : Fin 256) (n : Fin 1024) :
    (V3 m ρ c main_v11 : Vec Ideal S256x1024 .f32) (ix2 ch n)
      = (m ((c : Thread nD τ).loc main_arg3) : Vec Ideal S1x256x32x32 .f32) (ix4 0 ch ⟨n / 32, by omega⟩ ⟨n % 32, by omega⟩) := by
  unfold V3 W3 hostOps1
  after_reads_at
  exact congrFun (W2_args m ρ c main_arg3 (by decide)) _

/-- Level 32×32's lanes are its pixels. -/
theorem row32 : IsRow 32 (lane (V3 m ρ c main_v11 : Vec Ideal S256x1024 .f32)) (pixels (m ((c : Thread nD τ).loc main_arg3) : Vec Ideal S1x256x32x32 .f32)) :=
  isRow_pixels _ _ rfl (by decide) fun ch n _ => level32 m ρ c ch n

theorem level16 (ch : Fin 256) (n : Fin 256) :
    (V3 m ρ c main_v12 : Vec Ideal S256x256 .f32) (ix2 ch n)
      = (m ((c : Thread nD τ).loc main_arg4) : Vec Ideal S1x256x16x16 .f32) (ix4 0 ch ⟨n / 16, by omega⟩ ⟨n % 16, by omega⟩) := by
  unfold V3 W3 hostOps1
  after_reads_at
  exact congrFun (W2_args m ρ c main_arg4 (by decide)) _

/-- Level 16×16's lanes are its pixels. -/
theorem row16 : IsRow 16 (lane (V3 m ρ c main_v12 : Vec Ideal S256x256 .f32)) (pixels (m ((c : Thread nD τ).loc main_arg4) : Vec Ideal S1x256x16x16 .f32)) :=
  isRow_pixels _ _ rfl (by decide) fun ch n _ => level16 m ρ c ch n

theorem level8 (ch : Fin 256) (n : Fin 64) :
    (V3 m ρ c main_v13 : Vec Ideal S256x64 .f32) (ix2 ch n)
      = (m ((c : Thread nD τ).loc main_arg5) : Vec Ideal S1x256x8x8 .f32) (ix4 0 ch ⟨n / 8, by omega⟩ ⟨n % 8, by omega⟩) := by
  unfold V3 W3 hostOps1
  after_reads_at
  exact congrFun (W2_args m ρ c main_arg5 (by decide)) _

/-- Level 8×8's lanes are its pixels. -/
theorem row8 : IsRow 8 (lane (V3 m ρ c main_v13 : Vec Ideal S256x64 .f32)) (pixels (m ((c : Thread nD τ).loc main_arg5) : Vec Ideal S1x256x8x8 .f32)) :=
  isRow_pixels _ _ rfl (by decide) fun ch n _ => level8 m ρ c ch n

/-! ## The shared arrays at the second call -/

theorem shared_v2 : V3 m ρ c main_v2 = V1 m ρ c main_v2 :=
  (W3_of m ρ c main_v2 (by decide)).trans (W2_of m ρ c main_v2 (by decide +kernel))
theorem shared_v3 : V3 m ρ c main_v3 = V1 m ρ c main_v3 :=
  (W3_of m ρ c main_v3 (by decide)).trans (W2_of m ρ c main_v3 (by decide +kernel))
theorem shared_v5 : V3 m ρ c main_v5 = V1 m ρ c main_v5 :=
  (W3_of m ρ c main_v5 (by decide)).trans (W2_of m ρ c main_v5 (by decide +kernel))
theorem shared_v7 : V3 m ρ c main_v7 = V1 m ρ c main_v7 :=
  (W3_of m ρ c main_v7 (by decide)).trans (W2_of m ρ c main_v7 (by decide +kernel))

/-- An output's head over the call's arrays is the output over the arguments. -/
theorem head_logits {g : ℕ} (A : (⟨4, ![1, 256, g, g]⟩ : Shape).Idx → EReal) (o : Fin 15) (i j : Fin g) :
    Tails.headOf (V1 m ρ c main_v2) g (V1 m ρ c main_v3) (V1 m ρ c main_v5) (V1 m ρ c main_v7) (pixels A) ⟨o, by omega⟩ i j
      = output A (m ((c : Thread nD τ).loc main_arg6) : Vec Ideal S256x256x3x3 .f32) (m ((c : Thread nD τ).loc main_arg7) : Vec Ideal S256 .f32)
          (m ((c : Thread nD τ).loc main_arg8) : Vec Ideal S15x256 .f32) (m ((c : Thread nD τ).loc main_arg9) : Vec Ideal S15 .f32) o i j := by
  have hk : (fun (dy dx : Fin 3) (t ch : Fin 256) => (V1 m ρ c main_v2 : Vec Ideal S9x256x256 .bf16) (ix3 ⟨3 * dy + dx, by omega⟩ t ch))
      = fun dy dx t ch => (m ((c : Thread nD τ).loc main_arg6) : Vec Ideal S256x256x3x3 .f32) (ix4 t ch dy dx) := by
    funext dy dx t ch
    rw [kernels_at]
    congr 2 <;> apply Fin.ext <;> dsimp only <;> omega
  have hB := funext (bias_at m ρ c)
  have hH := funext (rows_logits m ρ c o)
  unfold Tails.headOf output
  rw [hk, hB, hH, shift_logits]

/-- An output's head over the call's arrays is the output over the arguments. -/
theorem head_boxes {g : ℕ} (A : (⟨4, ![1, 256, g, g]⟩ : Shape).Idx → EReal) (o : Fin 60) (i j : Fin g) :
    Tails.headOf (V1 m ρ c main_v2) g (V1 m ρ c main_v3) (V1 m ρ c main_v5) (V1 m ρ c main_v7) (pixels A) ⟨15 + o, by omega⟩ i j
      = output A (m ((c : Thread nD τ).loc main_arg6) : Vec Ideal S256x256x3x3 .f32) (m ((c : Thread nD τ).loc main_arg7) : Vec Ideal S256 .f32)
          (m ((c : Thread nD τ).loc main_arg10) : Vec Ideal S60x256 .f32) (m ((c : Thread nD τ).loc main_arg11) : Vec Ideal S60 .f32) o i j := by
  have hk : (fun (dy dx : Fin 3) (t ch : Fin 256) => (V1 m ρ c main_v2 : Vec Ideal S9x256x256 .bf16) (ix3 ⟨3 * dy + dx, by omega⟩ t ch))
      = fun dy dx t ch => (m ((c : Thread nD τ).loc main_arg6) : Vec Ideal S256x256x3x3 .f32) (ix4 t ch dy dx) := by
    funext dy dx t ch
    rw [kernels_at]
    congr 2 <;> apply Fin.ext <;> dsimp only <;> omega
  have hB := funext (bias_at m ρ c)
  have hH := funext (rows_boxes m ρ c o)
  unfold Tails.headOf output
  rw [hk, hB, hH, shift_boxes]

end Cert.KernelIdeal.Launched

end
-- ==== Proof.Tail64.lean ====
module

public import proofs.«01_k».proof.Proof.TailPieces

/-!
# The 64×64 level

The level's windows lane by lane, its 75 outputs as the head of the level, and the two blocks it stores.
-/

@[expose] public section

set_option maxRecDepth 100000

noncomputable section

namespace Cert.KernelIdeal.Tails

open Cert.KernelIdeal.Gen Cert.Level
open Idealize.ShloMosaic Idealize.ShloMosaic.TcCoe Idealize.ShloMosaic.Tactic

/-- The level one row back, zero before the first row. -/
theorem back64 (x : Vec Ideal S256x4096 .f32) (c : Fin 256) (r : Fin 4096) :
    (k1_pay2 x) (ix2 c r) = if 64 ≤ r.val then lane x c (r - 64) else 0 := by
  unfold_payloads
  pointwise
  exact select_back r.isLt (by decide) (by decide)

/-- The level one row on, zero after the last row. -/
theorem on64 (x : Vec Ideal S256x4096 .f32) (c : Fin 256) (r : Fin 4096) : (k1_pay3 x) (ix2 c r) = lane x c (r + 64) := by
  unfold_payloads
  pointwise
  exact select_on (g := 64) r.isLt (by decide) (by decide) (by decide) rfl

/-- The level itself. -/
theorem at64 (x : Vec Ideal S256x4096 .f32) (c : Fin 256) (r : Fin 4096) : (k1_pay1 x) (ix2 c r) = lane x c r := by
  unfold_payloads
  pointwise
  exact (lane_of_lt r.isLt).symm

/-- A lane's column. -/
theorem col64 (r : Fin 4096) : k1_pay4 (ix2 0 r) = BitVec.ofNat 32 (r.val % 64) := by
  unfold_payloads
  pointwise
  exact flooredRem_ofNat (by omega) (by decide) (by decide)

/-- The 75 outputs of every lane. -/
abbrev res64 (x : Vec Ideal S256x4096 .f32) (w : Vec Ideal S9x256x256 .bf16) (cb : Vec Ideal S256x1 .f32) (wh : Vec Ideal S75x256 .bf16)
    (hb : Vec Ideal S75x1 .f32) : FVec Ideal S75x4096 .f32 :=
  k1_pay9 (k1_pay3 x) k1_pay4
    (k1_pay6 (k1_pay1 x) (k1_pay2 x) (k1_pay3 x) k1_pay4 (k1_pay5 x (K0 w)) (K3 w) (K6 w) (K1 w) (K4 w) (K7 w))
    (k1_pay7 (k1_pay2 x) (K2 w)) (k1_pay8 (k1_pay1 x) (K5 w)) (K8 w) cb wh hb

/-- Each is the head of the level at the lane's pixel. -/
theorem head64 (x : Vec Ideal S256x4096 .f32) (w : Vec Ideal S9x256x256 .bf16) (cb : Vec Ideal S256x1 .f32) (wh : Vec Ideal S75x256 .bf16)
    (hb : Vec Ideal S75x1 .f32) {X : Fin 256 → ℕ → ℕ → EReal} (hX : IsRow 64 (lane x) X) (o : Fin 75) (i j : Fin 64)
    (hn : i.val * 64 + j.val < 4096) :
    res64 x w cb wh hb (ix2 o ⟨i * 64 + j, hn⟩) = headOf w 64 cb wh hb X o i j := by
  unfold res64 K0 K1 K2 K3 K4 K5 K6 K7 K8
  pointwise [k1_pay9, k1_pay6, k1_pay5, k1_pay7, k1_pay8]
  simp only [col64, back64, on64, at64]
  exact head_of_lanes (g := 64) hX (fun k t c => w (ix3 k t c)) (fun t => cb (ix2 t 0)) (fun t => wh (ix2 o t)) (hb (ix2 o 0))
    i.isLt j.isLt rfl (by decide) (fun h => one_back (by omega) hn) (fun h => one_on rfl (by omega)) (k := 63) rfl

variable (V : (c : Dev nD) → (b : Ref sig .tc) → Buf (Elt Ideal) ((c : Thread nD τ).loc b))

/-- The logits stored: the first fifteen outputs. -/
theorem logits64 (c : Dev nD) (t : Fin cfg1.N) {X : Fin 256 → ℕ → ℕ → EReal} (hX : IsRow 64 (lane (iblk V c 0 t)) X)
    (o : Fin 15) (i j : Fin 64) :
    out8 V c t (ix4 0 o i j)
      = headOf (iblk V c 4 t) 64 (iblk V c 5 t) (iblk V c 6 t) (iblk V c 7 t) X ⟨o, by omega⟩ i j := by
  unfold out8
  unfold runAt run
  frame_out
  refine (congrFun (View.canon_unit_zero (S := S1x15x64x64) (by funext a; fin_cases a <;> rfl) _ _) _).trans ?_
  pointwise [k1_pay10]
  exact head64 (iblk V c 0 t) (iblk V c 4 t) (iblk V c 5 t) (iblk V c 6 t) (iblk V c 7 t) hX ⟨o, by omega⟩ i j (by omega)

/-- The boxes stored: the other sixty. -/
theorem boxes64 (c : Dev nD) (t : Fin cfg1.N) {X : Fin 256 → ℕ → ℕ → EReal} (hX : IsRow 64 (lane (iblk V c 0 t)) X)
    (o : Fin 60) (i j : Fin 64) :
    out12 V c t (ix4 0 o i j)
      = headOf (iblk V c 4 t) 64 (iblk V c 5 t) (iblk V c 6 t) (iblk V c 7 t) X ⟨15 + o, by omega⟩ i j := by
  unfold out12
  unfold runAt run
  frame_out
  refine (congrFun (View.canon_unit_zero (S := S1x60x64x64) (by funext a; fin_cases a <;> rfl) _ _) _).trans ?_
  pointwise [k1_pay11]
  exact head64 (iblk V c 0 t) (iblk V c 4 t) (iblk V c 5 t) (iblk V c 6 t) (iblk V c 7 t) hX ⟨15 + o, by omega⟩ i j (by omega)

end Cert.KernelIdeal.Tails

end
-- ==== Proof.Tail32.lean ====
module

public import proofs.«01_k».proof.Proof.TailPieces

/-!
# The 32×32 level

The level's windows lane by lane, its 75 outputs as the head of the level, and the two blocks it stores.
-/

@[expose] public section

set_option maxRecDepth 16384

noncomputable section

namespace Cert.KernelIdeal.Tails

open Cert.KernelIdeal.Gen Cert.Level
open Idealize.ShloMosaic Idealize.ShloMosaic.TcCoe Idealize.ShloMosaic.Tactic

/-- The level one row back, zero before the first row. -/
theorem back32 (x : Vec Ideal S256x1024 .f32) (c : Fin 256) (r : Fin 1024) :
    (k1_pay13 x) (ix2 c r) = if 32 ≤ r.val then lane x c (r - 32) else 0 := by
  unfold_payloads
  pointwise
  exact select_back r.isLt (by decide) (by decide)

/-- The level one row on, zero after the last row. -/
theorem on32 (x : Vec Ideal S256x1024 .f32) (c : Fin 256) (r : Fin 1024) : (k1_pay14 x) (ix2 c r) = lane x c (r + 32) := by
  unfold_payloads
  pointwise
  exact select_on (g := 32) r.isLt (by decide) (by decide) (by decide) rfl

/-- The level itself. -/
theorem at32 (x : Vec Ideal S256x1024 .f32) (c : Fin 256) (r : Fin 1024) : (k1_pay12 x) (ix2 c r) = lane x c r := by
  unfold_payloads
  pointwise
  exact (lane_of_lt r.isLt).symm

/-- A lane's column. -/
theorem col32 (r : Fin 1024) : k1_pay15 (ix2 0 r) = BitVec.ofNat 32 (r.val % 32) := by
  unfold_payloads
  pointwise
  exact flooredRem_ofNat (by omega) (by decide) (by decide)

/-- The 75 outputs of every lane. -/
abbrev res32 (x : Vec Ideal S256x1024 .f32) (w : Vec Ideal S9x256x256 .bf16) (cb : Vec Ideal S256x1 .f32) (wh : Vec Ideal S75x256 .bf16)
    (hb : Vec Ideal S75x1 .f32) : FVec Ideal S75x1024 .f32 :=
  k1_pay20 (k1_pay14 x) k1_pay15
    (k1_pay18 (k1_pay12 x) (k1_pay13 x) (k1_pay14 x) k1_pay15 (k1_pay16 x (K0 w)) (k1_pay17 x (K3 w)) (K6 w) (K1 w) (K4 w) (K7 w))
    (k1_pay19 (k1_pay12 x) (k1_pay13 x) (K2 w) (K5 w)) (K8 w) cb wh hb

/-- Each is the head of the level at the lane's pixel. -/
theorem head32 (x : Vec Ideal S256x1024 .f32) (w : Vec Ideal S9x256x256 .bf16) (cb : Vec Ideal S256x1 .f32) (wh : Vec Ideal S75x256 .bf16)
    (hb : Vec Ideal S75x1 .f32) {X : Fin 256 → ℕ → ℕ → EReal} (hX : IsRow 32 (lane x) X) (o : Fin 75) (i j : Fin 32)
    (hn : i.val * 32 + j.val < 1024) :
    res32 x w cb wh hb (ix2 o ⟨i * 32 + j, hn⟩) = headOf w 32 cb wh hb X o i j := by
  unfold res32 K0 K1 K2 K3 K4 K5 K6 K7 K8
  pointwise [k1_pay20, k1_pay18, k1_pay16, k1_pay17, k1_pay19]
  simp only [col32, back32, on32, at32]
  exact head_of_lanes (g := 32) hX (fun k t c => w (ix3 k t c)) (fun t => cb (ix2 t 0)) (fun t => wh (ix2 o t)) (hb (ix2 o 0))
    i.isLt j.isLt rfl (by decide) (fun h => one_back (by omega) hn) (fun h => one_on rfl (by omega)) (k := 31) rfl

variable (V : (c : Dev nD) → (b : Ref sig .tc) → Buf (Elt Ideal) ((c : Thread nD τ).loc b))

/-- The logits stored: the first fifteen outputs. -/
theorem logits32 (c : Dev nD) (t : Fin cfg1.N) {X : Fin 256 → ℕ → ℕ → EReal} (hX : IsRow 32 (lane (iblk V c 1 t)) X)
    (o : Fin 15) (i j : Fin 32) :
    out9 V c t (ix4 0 o i j)
      = headOf (iblk V c 4 t) 32 (iblk V c 5 t) (iblk V c 6 t) (iblk V c 7 t) X ⟨o, by omega⟩ i j := by
  unfold out9
  unfold runAt run
  frame_out
  refine (congrFun (View.canon_unit_zero (S := S1x15x32x32) (by funext a; fin_cases a <;> rfl) _ _) _).trans ?_
  pointwise [k1_pay21]
  exact head32 (iblk V c 1 t) (iblk V c 4 t) (iblk V c 5 t) (iblk V c 6 t) (iblk V c 7 t) hX ⟨o, by omega⟩ i j (by omega)

/-- The boxes stored: the other sixty. -/
theorem boxes32 (c : Dev nD) (t : Fin cfg1.N) {X : Fin 256 → ℕ → ℕ → EReal} (hX : IsRow 32 (lane (iblk V c 1 t)) X)
    (o : Fin 60) (i j : Fin 32) :
    out13 V c t (ix4 0 o i j)
      = headOf (iblk V c 4 t) 32 (iblk V c 5 t) (iblk V c 6 t) (iblk V c 7 t) X ⟨15 + o, by omega⟩ i j := by
  unfold out13
  unfold runAt run
  frame_out
  refine (congrFun (View.canon_unit_zero (S := S1x60x32x32) (by funext a; fin_cases a <;> rfl) _ _) _).trans ?_
  pointwise [k1_pay22]
  exact head32 (iblk V c 1 t) (iblk V c 4 t) (iblk V c 5 t) (iblk V c 6 t) (iblk V c 7 t) hX ⟨15 + o, by omega⟩ i j (by omega)

end Cert.KernelIdeal.Tails

end
-- ==== Proof.Tail16.lean ====
module

public import proofs.«01_k».proof.Proof.TailPieces

/-!
# The 16×16 level

The level's windows lane by lane, its 75 outputs as the head of the level, and the two blocks it stores.
-/

@[expose] public section

set_option maxRecDepth 16384

noncomputable section

namespace Cert.KernelIdeal.Tails

open Cert.KernelIdeal.Gen Cert.Level
open Idealize.ShloMosaic Idealize.ShloMosaic.TcCoe Idealize.ShloMosaic.Tactic

/-- The level one row back, zero before the first row. -/
theorem back16 (x : Vec Ideal S256x256 .f32) (c : Fin 256) (r : Fin 256) :
    (k1_pay24 (k1_pay23 x)) (ix2 c r) = if 16 ≤ r.val then lane x c (r - 16) else 0 := by
  unfold_payloads
  pointwise
  exact select_back r.isLt (by decide) (by decide)

/-- The level one row on, zero after the last row. -/
theorem on16 (x : Vec Ideal S256x256 .f32) (c : Fin 256) (r : Fin 256) : (k1_pay25 (k1_pay23 x)) (ix2 c r) = lane x c (r + 16) := by
  unfold_payloads
  pointwise
  exact select_on (g := 16) r.isLt (by decide) (by decide) (by decide) rfl

/-- The level itself. -/
theorem at16 (x : Vec Ideal S256x256 .f32) (c : Fin 256) (r : Fin 256) : (k1_pay23 x) (ix2 c r) = lane x c r := by
  unfold_payloads
  pointwise
  exact (lane_of_lt r.isLt).symm

/-- A lane's column. -/
theorem col16 (r : Fin 256) : k1_pay26 (ix2 0 r) = BitVec.ofNat 32 (r.val % 16) := by
  unfold_payloads
  pointwise
  exact flooredRem_ofNat (by omega) (by decide) (by decide)

/-- The 75 outputs of every lane. -/
abbrev res16 (x : Vec Ideal S256x256 .f32) (w : Vec Ideal S9x256x256 .bf16) (cb : Vec Ideal S256x1 .f32) (wh : Vec Ideal S75x256 .bf16)
    (hb : Vec Ideal S75x1 .f32) : FVec Ideal S75x256 .f32 :=
  k1_pay31 (k1_pay25 (k1_pay23 x)) k1_pay26
    (k1_pay28 (k1_pay23 x) (k1_pay24 (k1_pay23 x)) (k1_pay25 (k1_pay23 x)) k1_pay26 (k1_pay27 (k1_pay23 x) (K0 w) (K3 w)) (K6 w) (K1 w) (K4 w) (K7 w))
    (k1_pay29 (k1_pay23 x) (k1_pay24 (k1_pay23 x)) (K2 w) (K5 w)) (k1_pay30 (K8 w)) cb wh hb

/-- Each is the head of the level at the lane's pixel. -/
theorem head16 (x : Vec Ideal S256x256 .f32) (w : Vec Ideal S9x256x256 .bf16) (cb : Vec Ideal S256x1 .f32) (wh : Vec Ideal S75x256 .bf16)
    (hb : Vec Ideal S75x1 .f32) {X : Fin 256 → ℕ → ℕ → EReal} (hX : IsRow 16 (lane x) X) (o : Fin 75) (i j : Fin 16)
    (hn : i.val * 16 + j.val < 256) :
    res16 x w cb wh hb (ix2 o ⟨i * 16 + j, hn⟩) = headOf w 16 cb wh hb X o i j := by
  unfold res16 K0 K1 K2 K3 K4 K5 K6 K7 K8
  pointwise [k1_pay31, k1_pay28, k1_pay27, k1_pay29, k1_pay30]
  simp only [col16, back16, on16, at16]
  exact head_of_lanes (g := 16) hX (fun k t c => w (ix3 k t c)) (fun t => cb (ix2 t 0)) (fun t => wh (ix2 o t)) (hb (ix2 o 0))
    i.isLt j.isLt rfl (by decide) (fun h => one_back (by omega) hn) (fun h => one_on rfl (by omega)) (k := 15) rfl

variable (V : (c : Dev nD) → (b : Ref sig .tc) → Buf (Elt Ideal) ((c : Thread nD τ).loc b))

/-- The logits stored: the first fifteen outputs. -/
theorem logits16 (c : Dev nD) (t : Fin cfg1.N) {X : Fin 256 → ℕ → ℕ → EReal} (hX : IsRow 16 (lane (iblk V c 2 t)) X)
    (o : Fin 15) (i j : Fin 16) :
    out10 V c t (ix4 0 o i j)
      = headOf (iblk V c 4 t) 16 (iblk V c 5 t) (iblk V c 6 t) (iblk V c 7 t) X ⟨o, by omega⟩ i j := by
  unfold out10
  unfold runAt run
  frame_out
  refine (congrFun (View.canon_unit_zero (S := S1x15x16x16) (by funext a; fin_cases a <;> rfl) _ _) _).trans ?_
  pointwise [k1_pay32]
  exact head16 (iblk V c 2 t) (iblk V c 4 t) (iblk V c 5 t) (iblk V c 6 t) (iblk V c 7 t) hX ⟨o, by omega⟩ i j (by omega)

/-- The boxes stored: the other sixty. -/
theorem boxes16 (c : Dev nD) (t : Fin cfg1.N) {X : Fin 256 → ℕ → ℕ → EReal} (hX : IsRow 16 (lane (iblk V c 2 t)) X)
    (o : Fin 60) (i j : Fin 16) :
    out14 V c t (ix4 0 o i j)
      = headOf (iblk V c 4 t) 16 (iblk V c 5 t) (iblk V c 6 t) (iblk V c 7 t) X ⟨15 + o, by omega⟩ i j := by
  unfold out14
  unfold runAt run
  frame_out
  refine (congrFun (View.canon_unit_zero (S := S1x60x16x16) (by funext a; fin_cases a <;> rfl) _ _) _).trans ?_
  pointwise [k1_pay33]
  exact head16 (iblk V c 2 t) (iblk V c 4 t) (iblk V c 5 t) (iblk V c 6 t) (iblk V c 7 t) hX ⟨15 + o, by omega⟩ i j (by omega)

end Cert.KernelIdeal.Tails

end
-- ==== Proof.Tail8.lean ====
module

public import proofs.«01_k».proof.Proof.TailPieces

/-!
# The 8×8 level

The level's windows lane by lane, its 75 outputs as the head of the level, and the two blocks it stores.
-/

@[expose] public section

set_option maxRecDepth 16384

noncomputable section

namespace Cert.KernelIdeal.Tails

open Cert.KernelIdeal.Gen Cert.Level
open Idealize.ShloMosaic Idealize.ShloMosaic.TcCoe Idealize.ShloMosaic.Tactic

/-- The lanes' own numbers. -/
abbrev lanes8 : IVec S1x64 32 := iota Kind.tc S1x64 32 [1] iota_S1x64_d1_w32

/-- The level one row back, zero before the first row. -/
theorem back8 (x : Vec Ideal S256x64 .f32) (c : Fin 256) (r : Fin 64) :
    (k1_pay36 (k1_pay34 x) lanes8 k1_pay35) (ix2 c r) = if 8 ≤ r.val then lane x c (r - 8) else 0 := by
  unfold_payloads
  pointwise
  exact select_back r.isLt (by decide) (by decide)

/-- The level one row on, zero after the last row. -/
theorem on8 (x : Vec Ideal S256x64 .f32) (c : Fin 256) (r : Fin 64) : (k1_pay37 (k1_pay34 x) lanes8) (ix2 c r) = lane x c (r + 8) := by
  unfold_payloads
  pointwise
  exact select_on (g := 8) r.isLt (by decide) (by decide) (by decide) rfl

/-- The level itself. -/
theorem at8 (x : Vec Ideal S256x64 .f32) (c : Fin 256) (r : Fin 64) : (k1_pay34 x) (ix2 c r) = lane x c r := by
  unfold_payloads
  pointwise
  exact (lane_of_lt r.isLt).symm

/-- A lane's column. -/
theorem col8 (r : Fin 64) : (k1_pay38 lanes8) (ix2 0 r) = BitVec.ofNat 32 (r.val % 8) := by
  unfold_payloads
  pointwise
  exact flooredRem_ofNat (by omega) (by decide) (by decide)

/-- The 75 outputs of every lane. -/
abbrev res8 (x : Vec Ideal S256x64 .f32) (w : Vec Ideal S9x256x256 .bf16) (cb : Vec Ideal S256x1 .f32) (wh : Vec Ideal S75x256 .bf16)
    (hb : Vec Ideal S75x1 .f32) : FVec Ideal S75x64 .f32 :=
  k1_pay43 (k1_pay38 lanes8)
    (k1_pay41 (k1_pay34 x) (k1_pay36 (k1_pay34 x) lanes8 k1_pay35)
      (k1_pay37 (k1_pay34 x) lanes8) (k1_pay38 lanes8)
      (k1_pay39 (k1_pay34 x) lanes8 k1_pay35 (K0 w) (K3 w))
      (k1_pay40 (K6 w)) (K1 w) (K4 w) (K7 w))
    (k1_pay42 (k1_pay34 x) (k1_pay36 (k1_pay34 x) lanes8 k1_pay35)
      (k1_pay37 (k1_pay34 x) lanes8) (K2 w) (K5 w) (K8 w))
    cb wh hb

/-- Each is the head of the level at the lane's pixel. -/
theorem head8 (x : Vec Ideal S256x64 .f32) (w : Vec Ideal S9x256x256 .bf16) (cb : Vec Ideal S256x1 .f32) (wh : Vec Ideal S75x256 .bf16)
    (hb : Vec Ideal S75x1 .f32) {X : Fin 256 → ℕ → ℕ → EReal} (hX : IsRow 8 (lane x) X) (o : Fin 75) (i j : Fin 8)
    (hn : i.val * 8 + j.val < 64) :
    res8 x w cb wh hb (ix2 o ⟨i * 8 + j, hn⟩) = headOf w 8 cb wh hb X o i j := by
  unfold res8 K0 K1 K2 K3 K4 K5 K6 K7 K8
  pointwise [k1_pay43, k1_pay41, k1_pay39, k1_pay40, k1_pay42]
  simp only [col8, back8, on8, at8]
  exact head_of_lanes (g := 8) hX (fun k t c => w (ix3 k t c)) (fun t => cb (ix2 t 0)) (fun t => wh (ix2 o t)) (hb (ix2 o 0))
    i.isLt j.isLt rfl (by decide) (fun h => one_back (by omega) hn) (fun h => one_on rfl (by omega)) (k := 7) rfl

variable (V : (c : Dev nD) → (b : Ref sig .tc) → Buf (Elt Ideal) ((c : Thread nD τ).loc b))

/-- The logits stored: the first fifteen outputs. -/
theorem logits8 (c : Dev nD) (t : Fin cfg1.N) {X : Fin 256 → ℕ → ℕ → EReal} (hX : IsRow 8 (lane (iblk V c 3 t)) X)
    (o : Fin 15) (i j : Fin 8) :
    out11 V c t (ix4 0 o i j)
      = headOf (iblk V c 4 t) 8 (iblk V c 5 t) (iblk V c 6 t) (iblk V c 7 t) X ⟨o, by omega⟩ i j := by
  unfold out11
  unfold runAt run
  frame_out
  refine (congrFun (View.canon_unit_zero (S := S1x15x8x8) (by funext a; fin_cases a <;> rfl) _ _) _).trans ?_
  pointwise [k1_pay44]
  exact head8 (iblk V c 3 t) (iblk V c 4 t) (iblk V c 5 t) (iblk V c 6 t) (iblk V c 7 t) hX ⟨o, by omega⟩ i j (by omega)

/-- The boxes stored: the other sixty. -/
theorem boxes8 (c : Dev nD) (t : Fin cfg1.N) {X : Fin 256 → ℕ → ℕ → EReal} (hX : IsRow 8 (lane (iblk V c 3 t)) X)
    (o : Fin 60) (i j : Fin 8) :
    out15 V c t (ix4 0 o i j)
      = headOf (iblk V c 4 t) 8 (iblk V c 5 t) (iblk V c 6 t) (iblk V c 7 t) X ⟨15 + o, by omega⟩ i j := by
  unfold out15
  unfold runAt run
  frame_out
  refine (congrFun (View.canon_unit_zero (S := S1x60x8x8) (by funext a; fin_cases a <;> rfl) _ _) _).trans ?_
  pointwise [k1_pay45]
  exact head8 (iblk V c 3 t) (iblk V c 4 t) (iblk V c 5 t) (iblk V c 6 t) (iblk V c 7 t) hX ⟨15 + o, by omega⟩ i j (by omega)

end Cert.KernelIdeal.Tails

end
-- ==== Proof.TailArrays.lean ====
module

public import proofs.«01_k».proof.Proof.Tail64
public import proofs.«01_k».proof.Proof.Tail32
public import proofs.«01_k».proof.Proof.Tail16
public import proofs.«01_k».proof.Proof.Tail8

/-!
# The arrays the second call leaves

The call has one grid point and every window is its whole array, so an input's block is the array and an output's array
is the block stored.
-/

@[expose] public section

set_option maxRecDepth 100000

noncomputable section

namespace Cert.KernelIdeal.Tails

open Cert.KernelIdeal.Gen Cert.Level
open Idealize.ShloMosaic Idealize.ShloMosaic.TcCoe Idealize.ShloMosaic.Tactic
open Idealize.ShloMosaic.Pipeline (Dat Cfg Window BodyObligation cellOf)

variable (V : (c : Dev nD) → (b : Ref sig .tc) → Buf (Elt Ideal) ((c : Thread nD τ).loc b)) (c : Dev nD)

theorem block0 : iblk V c 0 t1_0 = V c main_v10 := by
  funext y
  unfold iblk
  blk_simp
  blk_ext [(by decide +kernel : win1_0.index t1_0 = fun _ => 0)]
theorem block1 : iblk V c 1 t1_0 = V c main_v11 := by
  funext y
  unfold iblk
  blk_simp
  blk_ext [(by decide +kernel : win1_1.index t1_0 = fun _ => 0)]
theorem block2 : iblk V c 2 t1_0 = V c main_v12 := by
  funext y
  unfold iblk
  blk_simp
  blk_ext [(by decide +kernel : win1_2.index t1_0 = fun _ => 0)]
theorem block3 : iblk V c 3 t1_0 = V c main_v13 := by
  funext y
  unfold iblk
  blk_simp
  blk_ext [(by decide +kernel : win1_3.index t1_0 = fun _ => 0)]
theorem block4 : iblk V c 4 t1_0 = V c main_v2 := by
  funext y
  unfold iblk
  blk_simp
  blk_ext [(by decide +kernel : win1_4.index t1_0 = fun _ => 0)]
theorem block5 : iblk V c 5 t1_0 = V c main_v3 := by
  funext y
  unfold iblk
  blk_simp
  blk_ext [(by decide +kernel : win1_5.index t1_0 = fun _ => 0)]
theorem block6 : iblk V c 6 t1_0 = V c main_v5 := by
  funext y
  unfold iblk
  blk_simp
  blk_ext [(by decide +kernel : win1_6.index t1_0 = fun _ => 0)]
theorem block7 : iblk V c 7 t1_0 = V c main_v7 := by
  funext y
  unfold iblk
  blk_simp
  blk_ext [(by decide +kernel : win1_7.index t1_0 = fun _ => 0)]

theorem array8 : (dat V c).arrAt 8 cfg1.N = out8 V c t1_0 := by
  refine (dat V c).arrAt_eq_of_after_last 8 t1_0 (by decide +kernel) _ fun j => ?_
  blk_simp
  rw [after_8]
theorem array9 : (dat V c).arrAt 9 cfg1.N = out9 V c t1_0 := by
  refine (dat V c).arrAt_eq_of_after_last 9 t1_0 (by decide +kernel) _ fun j => ?_
  blk_simp
  rw [after_9]
theorem array10 : (dat V c).arrAt 10 cfg1.N = out10 V c t1_0 := by
  refine (dat V c).arrAt_eq_of_after_last 10 t1_0 (by decide +kernel) _ fun j => ?_
  blk_simp
  rw [after_10]
theorem array11 : (dat V c).arrAt 11 cfg1.N = out11 V c t1_0 := by
  refine (dat V c).arrAt_eq_of_after_last 11 t1_0 (by decide +kernel) _ fun j => ?_
  blk_simp
  rw [after_11]
theorem array12 : (dat V c).arrAt 12 cfg1.N = out12 V c t1_0 := by
  refine (dat V c).arrAt_eq_of_after_last 12 t1_0 (by decide +kernel) _ fun j => ?_
  blk_simp
  rw [after_12]
theorem array13 : (dat V c).arrAt 13 cfg1.N = out13 V c t1_0 := by
  refine (dat V c).arrAt_eq_of_after_last 13 t1_0 (by decide +kernel) _ fun j => ?_
  blk_simp
  rw [after_13]
theorem array14 : (dat V c).arrAt 14 cfg1.N = out14 V c t1_0 := by
  refine (dat V c).arrAt_eq_of_after_last 14 t1_0 (by decide +kernel) _ fun j => ?_
  blk_simp
  rw [after_14]
theorem array15 : (dat V c).arrAt 15 cfg1.N = out15 V c t1_0 := by
  refine (dat V c).arrAt_eq_of_after_last 15 t1_0 (by decide +kernel) _ fun j => ?_
  blk_simp
  rw [after_15]

/-! Hence the eight results of the call. -/

theorem logitsArray64 {X : Fin 256 → ℕ → ℕ → EReal} (hX : IsRow 64 (lane (V c main_v10 : Vec Ideal S256x4096 .f32)) X) (o : Fin 15) (i j : Fin 64) :
    ((dat V c).arrAt 8 cfg1.N : Vec Ideal S1x15x64x64 .f32) (ix4 0 o i j)
      = headOf (V c main_v2) 64 (V c main_v3) (V c main_v5) (V c main_v7) X ⟨o, by omega⟩ i j := by
  rw [array8]
  rw [← block0 V c] at hX
  exact (logits64 V c t1_0 hX o i j).trans (by rw [block4 V c, block5 V c, block6 V c, block7 V c])

theorem boxesArray64 {X : Fin 256 → ℕ → ℕ → EReal} (hX : IsRow 64 (lane (V c main_v10 : Vec Ideal S256x4096 .f32)) X) (o : Fin 60) (i j : Fin 64) :
    ((dat V c).arrAt 12 cfg1.N : Vec Ideal S1x60x64x64 .f32) (ix4 0 o i j)
      = headOf (V c main_v2) 64 (V c main_v3) (V c main_v5) (V c main_v7) X ⟨15 + o, by omega⟩ i j := by
  rw [array12]
  rw [← block0 V c] at hX
  exact (boxes64 V c t1_0 hX o i j).trans (by rw [block4 V c, block5 V c, block6 V c, block7 V c])

theorem logitsArray32 {X : Fin 256 → ℕ → ℕ → EReal} (hX : IsRow 32 (lane (V c main_v11 : Vec Ideal S256x1024 .f32)) X) (o : Fin 15) (i j : Fin 32) :
    ((dat V c).arrAt 9 cfg1.N : Vec Ideal S1x15x32x32 .f32) (ix4 0 o i j)
      = headOf (V c main_v2) 32 (V c main_v3) (V c main_v5) (V c main_v7) X ⟨o, by omega⟩ i j := by
  rw [array9]
  rw [← block1 V c] at hX
  exact (logits32 V c t1_0 hX o i j).trans (by rw [block4 V c, block5 V c, block6 V c, block7 V c])

theorem boxesArray32 {X : Fin 256 → ℕ → ℕ → EReal} (hX : IsRow 32 (lane (V c main_v11 : Vec Ideal S256x1024 .f32)) X) (o : Fin 60) (i j : Fin 32) :
    ((dat V c).arrAt 13 cfg1.N : Vec Ideal S1x60x32x32 .f32) (ix4 0 o i j)
      = headOf (V c main_v2) 32 (V c main_v3) (V c main_v5) (V c main_v7) X ⟨15 + o, by omega⟩ i j := by
  rw [array13]
  rw [← block1 V c] at hX
  exact (boxes32 V c t1_0 hX o i j).trans (by rw [block4 V c, block5 V c, block6 V c, block7 V c])

theorem logitsArray16 {X : Fin 256 → ℕ → ℕ → EReal} (hX : IsRow 16 (lane (V c main_v12 : Vec Ideal S256x256 .f32)) X) (o : Fin 15) (i j : Fin 16) :
    ((dat V c).arrAt 10 cfg1.N : Vec Ideal S1x15x16x16 .f32) (ix4 0 o i j)
      = headOf (V c main_v2) 16 (V c main_v3) (V c main_v5) (V c main_v7) X ⟨o, by omega⟩ i j := by
  rw [array10]
  rw [← block2 V c] at hX
  exact (logits16 V c t1_0 hX o i j).trans (by rw [block4 V c, block5 V c, block6 V c, block7 V c])

theorem boxesArray16 {X : Fin 256 → ℕ → ℕ → EReal} (hX : IsRow 16 (lane (V c main_v12 : Vec Ideal S256x256 .f32)) X) (o : Fin 60) (i j : Fin 16) :
    ((dat V c).arrAt 14 cfg1.N : Vec Ideal S1x60x16x16 .f32) (ix4 0 o i j)
      = headOf (V c main_v2) 16 (V c main_v3) (V c main_v5) (V c main_v7) X ⟨15 + o, by omega⟩ i j := by
  rw [array14]
  rw [← block2 V c] at hX
  exact (boxes16 V c t1_0 hX o i j).trans (by rw [block4 V c, block5 V c, block6 V c, block7 V c])

theorem logitsArray8 {X : Fin 256 → ℕ → ℕ → EReal} (hX : IsRow 8 (lane (V c main_v13 : Vec Ideal S256x64 .f32)) X) (o : Fin 15) (i j : Fin 8) :
    ((dat V c).arrAt 11 cfg1.N : Vec Ideal S1x15x8x8 .f32) (ix4 0 o i j)
      = headOf (V c main_v2) 8 (V c main_v3) (V c main_v5) (V c main_v7) X ⟨o, by omega⟩ i j := by
  rw [array11]
  rw [← block3 V c] at hX
  exact (logits8 V c t1_0 hX o i j).trans (by rw [block4 V c, block5 V c, block6 V c, block7 V c])

theorem boxesArray8 {X : Fin 256 → ℕ → ℕ → EReal} (hX : IsRow 8 (lane (V c main_v13 : Vec Ideal S256x64 .f32)) X) (o : Fin 60) (i j : Fin 8) :
    ((dat V c).arrAt 15 cfg1.N : Vec Ideal S1x60x8x8 .f32) (ix4 0 o i j)
      = headOf (V c main_v2) 8 (V c main_v3) (V c main_v5) (V c main_v7) X ⟨15 + o, by omega⟩ i j := by
  rw [array15]
  rw [← block3 V c] at hX
  exact (boxes8 V c t1_0 hX o i j).trans (by rw [block4 V c, block5 V c, block6 V c, block7 V c])

end Cert.KernelIdeal.Tails

end
-- ==== Proof.TailResults.lean ====
module

public import proofs.«01_k».proof.Proof.HostArrays
public import proofs.«01_k».proof.Proof.TailArrays

/-!
# The kernel's results on the four smaller levels

Each is, entry by entry, the level's output over the arguments.
-/

@[expose] public section

set_option maxRecDepth 100000

noncomputable section

namespace Cert.KernelIdeal.Launched

open Cert.KernelIdeal.Gen Cert.Level
open Idealize.ShloMosaic Idealize.ShloMosaic.TcCoe Idealize.ShloMosaic.Tactic

variable (m : (ℓ : Loc nD τ sig) → Buf (Elt Ideal) ℓ) (ρ : Dev nD → PrngReg) (c : Dev nD)

theorem logits64 (o : Fin 15) (i j : Fin 64) :
    (W5 m ρ c (Proc.devRef .tc main_v14_0) : Vec Ideal S1x15x64x64 .f32) (ix4 0 o i j)
      = output (m ((c : Thread nD τ).loc main_arg2) : Vec Ideal S1x256x64x64 .f32) (m ((c : Thread nD τ).loc main_arg6) : Vec Ideal S256x256x3x3 .f32)
          (m ((c : Thread nD τ).loc main_arg7) : Vec Ideal S256 .f32) (m ((c : Thread nD τ).loc main_arg8) : Vec Ideal S15x256 .f32)
          (m ((c : Thread nD τ).loc main_arg9) : Vec Ideal S15 .f32) o i j := by
  rw [W5_of m ρ c main_v14_0 (by decide)]
  refine (congrFun (W4_arr m ρ c 8) (ix4 0 o i j)).trans ?_
  refine (Tails.logitsArray64 (V3 m ρ) c (row64 m ρ c) o i j).trans ?_
  rw [shared_v2, shared_v3, shared_v5, shared_v7]
  exact head_logits m ρ c _ o i j

theorem boxes64 (o : Fin 60) (i j : Fin 64) :
    (W5 m ρ c (Proc.devRef .tc main_v14_4) : Vec Ideal S1x60x64x64 .f32) (ix4 0 o i j)
      = output (m ((c : Thread nD τ).loc main_arg2) : Vec Ideal S1x256x64x64 .f32) (m ((c : Thread nD τ).loc main_arg6) : Vec Ideal S256x256x3x3 .f32)
          (m ((c : Thread nD τ).loc main_arg7) : Vec Ideal S256 .f32) (m ((c : Thread nD τ).loc main_arg10) : Vec Ideal S60x256 .f32)
          (m ((c : Thread nD τ).loc main_arg11) : Vec Ideal S60 .f32) o i j := by
  rw [W5_of m ρ c main_v14_4 (by decide)]
  refine (congrFun (W4_arr m ρ c 12) (ix4 0 o i j)).trans ?_
  refine (Tails.boxesArray64 (V3 m ρ) c (row64 m ρ c) o i j).trans ?_
  rw [shared_v2, shared_v3, shared_v5, shared_v7]
  exact head_boxes m ρ c _ o i j

theorem logits32 (o : Fin 15) (i j : Fin 32) :
    (W5 m ρ c (Proc.devRef .tc main_v14_1) : Vec Ideal S1x15x32x32 .f32) (ix4 0 o i j)
      = output (m ((c : Thread nD τ).loc main_arg3) : Vec Ideal S1x256x32x32 .f32) (m ((c : Thread nD τ).loc main_arg6) : Vec Ideal S256x256x3x3 .f32)
          (m ((c : Thread nD τ).loc main_arg7) : Vec Ideal S256 .f32) (m ((c : Thread nD τ).loc main_arg8) : Vec Ideal S15x256 .f32)
          (m ((c : Thread nD τ).loc main_arg9) : Vec Ideal S15 .f32) o i j := by
  rw [W5_of m ρ c main_v14_1 (by decide)]
  refine (congrFun (W4_arr m ρ c 9) (ix4 0 o i j)).trans ?_
  refine (Tails.logitsArray32 (V3 m ρ) c (row32 m ρ c) o i j).trans ?_
  rw [shared_v2, shared_v3, shared_v5, shared_v7]
  exact head_logits m ρ c _ o i j

theorem boxes32 (o : Fin 60) (i j : Fin 32) :
    (W5 m ρ c (Proc.devRef .tc main_v14_5) : Vec Ideal S1x60x32x32 .f32) (ix4 0 o i j)
      = output (m ((c : Thread nD τ).loc main_arg3) : Vec Ideal S1x256x32x32 .f32) (m ((c : Thread nD τ).loc main_arg6) : Vec Ideal S256x256x3x3 .f32)
          (m ((c : Thread nD τ).loc main_arg7) : Vec Ideal S256 .f32) (m ((c : Thread nD τ).loc main_arg10) : Vec Ideal S60x256 .f32)
          (m ((c : Thread nD τ).loc main_arg11) : Vec Ideal S60 .f32) o i j := by
  rw [W5_of m ρ c main_v14_5 (by decide)]
  refine (congrFun (W4_arr m ρ c 13) (ix4 0 o i j)).trans ?_
  refine (Tails.boxesArray32 (V3 m ρ) c (row32 m ρ c) o i j).trans ?_
  rw [shared_v2, shared_v3, shared_v5, shared_v7]
  exact head_boxes m ρ c _ o i j

theorem logits16 (o : Fin 15) (i j : Fin 16) :
    (W5 m ρ c (Proc.devRef .tc main_v14_2) : Vec Ideal S1x15x16x16 .f32) (ix4 0 o i j)
      = output (m ((c : Thread nD τ).loc main_arg4) : Vec Ideal S1x256x16x16 .f32) (m ((c : Thread nD τ).loc main_arg6) : Vec Ideal S256x256x3x3 .f32)
          (m ((c : Thread nD τ).loc main_arg7) : Vec Ideal S256 .f32) (m ((c : Thread nD τ).loc main_arg8) : Vec Ideal S15x256 .f32)
          (m ((c : Thread nD τ).loc main_arg9) : Vec Ideal S15 .f32) o i j := by
  rw [W5_of m ρ c main_v14_2 (by decide)]
  refine (congrFun (W4_arr m ρ c 10) (ix4 0 o i j)).trans ?_
  refine (Tails.logitsArray16 (V3 m ρ) c (row16 m ρ c) o i j).trans ?_
  rw [shared_v2, shared_v3, shared_v5, shared_v7]
  exact head_logits m ρ c _ o i j

theorem boxes16 (o : Fin 60) (i j : Fin 16) :
    (W5 m ρ c (Proc.devRef .tc main_v14_6) : Vec Ideal S1x60x16x16 .f32) (ix4 0 o i j)
      = output (m ((c : Thread nD τ).loc main_arg4) : Vec Ideal S1x256x16x16 .f32) (m ((c : Thread nD τ).loc main_arg6) : Vec Ideal S256x256x3x3 .f32)
          (m ((c : Thread nD τ).loc main_arg7) : Vec Ideal S256 .f32) (m ((c : Thread nD τ).loc main_arg10) : Vec Ideal S60x256 .f32)
          (m ((c : Thread nD τ).loc main_arg11) : Vec Ideal S60 .f32) o i j := by
  rw [W5_of m ρ c main_v14_6 (by decide)]
  refine (congrFun (W4_arr m ρ c 14) (ix4 0 o i j)).trans ?_
  refine (Tails.boxesArray16 (V3 m ρ) c (row16 m ρ c) o i j).trans ?_
  rw [shared_v2, shared_v3, shared_v5, shared_v7]
  exact head_boxes m ρ c _ o i j

theorem logits8 (o : Fin 15) (i j : Fin 8) :
    (W5 m ρ c (Proc.devRef .tc main_v14_3) : Vec Ideal S1x15x8x8 .f32) (ix4 0 o i j)
      = output (m ((c : Thread nD τ).loc main_arg5) : Vec Ideal S1x256x8x8 .f32) (m ((c : Thread nD τ).loc main_arg6) : Vec Ideal S256x256x3x3 .f32)
          (m ((c : Thread nD τ).loc main_arg7) : Vec Ideal S256 .f32) (m ((c : Thread nD τ).loc main_arg8) : Vec Ideal S15x256 .f32)
          (m ((c : Thread nD τ).loc main_arg9) : Vec Ideal S15 .f32) o i j := by
  rw [W5_of m ρ c main_v14_3 (by decide)]
  refine (congrFun (W4_arr m ρ c 11) (ix4 0 o i j)).trans ?_
  refine (Tails.logitsArray8 (V3 m ρ) c (row8 m ρ c) o i j).trans ?_
  rw [shared_v2, shared_v3, shared_v5, shared_v7]
  exact head_logits m ρ c _ o i j

theorem boxes8 (o : Fin 60) (i j : Fin 8) :
    (W5 m ρ c (Proc.devRef .tc main_v14_7) : Vec Ideal S1x60x8x8 .f32) (ix4 0 o i j)
      = output (m ((c : Thread nD τ).loc main_arg5) : Vec Ideal S1x256x8x8 .f32) (m ((c : Thread nD τ).loc main_arg6) : Vec Ideal S256x256x3x3 .f32)
          (m ((c : Thread nD τ).loc main_arg7) : Vec Ideal S256 .f32) (m ((c : Thread nD τ).loc main_arg10) : Vec Ideal S60x256 .f32)
          (m ((c : Thread nD τ).loc main_arg11) : Vec Ideal S60 .f32) o i j := by
  rw [W5_of m ρ c main_v14_7 (by decide)]
  refine (congrFun (W4_arr m ρ c 15) (ix4 0 o i j)).trans ?_
  refine (Tails.boxesArray8 (V3 m ρ) c (row8 m ρ c) o i j).trans ?_
  rw [shared_v2, shared_v3, shared_v5, shared_v7]
  exact head_boxes m ρ c _ o i j

end Cert.KernelIdeal.Launched

end
-- ==== Proof.AnchorWords.lean ====
module

public import proofs.«01_k».proof.Proof.Gen.ReferenceIdeal.Run
public import Idealize.ShloMosaic.Lib.Pipeline.ValueKit

/-!
# One anchor

What an anchor is, and the words the first call computes it from. The anchors of a level are numbered by their shape
`k`, row `i` and column `j`; the call takes the three back out of the number by shifts and masks.
-/

@[expose] public section

noncomputable section

namespace Cert.Level

open Idealize.ShloMosaic Idealize.ShloMosaic.TcCoe Idealize.ShloMosaic.Tactic

/-- Anchor shape `k` in the cell `(i, j)` of a level whose cells lie `step` apart: its place, width and height. -/
def anchor (step : BitVec 32) (k : Fin 15) (i j : ℕ) (f : Fin 4) : EReal :=
  ![FloatOps.sitofp (F := Ideal) .f32 (BitVec.ofNat 32 i) * Ideal.ofBits .f32 step,
    FloatOps.sitofp (F := Ideal) .f32 (BitVec.ofNat 32 j) * Ideal.ofBits .f32 step,
    Ideal.ofBits .f32 (Cert.ReferenceIdeal.lit0 k), Ideal.ofBits .f32 (Cert.ReferenceIdeal.lit1 k)] f

/-- Anchor number `n` of a level of `2 ^ p` rows: its shape, row and column are the number's digits. -/
def numbered (step : BitVec 32) (p n : ℕ) (f : Fin 4) : EReal :=
  anchor step ⟨n / 2 ^ (2 * p) % 15, Nat.mod_lt _ (by norm_num)⟩ (n % 2 ^ (2 * p) / 2 ^ p) (n % 2 ^ (2 * p) % 2 ^ p) f

/-- Anchor number `n` of all five levels, the largest level first. The steps are 4, 8, 16, 32 and 64. -/
def anchors (n : ℕ) (f : Fin 4) : EReal :=
  if n < 245760 then numbered 0x40800000#32 7 n f
  else if n < 307200 then numbered 0x41000000#32 6 (n - 245760) f
  else if n < 322560 then numbered 0x41800000#32 5 (n - 307200) f
  else if n < 326400 then numbered 0x42000000#32 4 (n - 322560) f
  else numbered 0x42800000#32 3 (n - 326400) f

theorem anchors_128 (n : ℕ) (h : n < 245760) (f : Fin 4) : anchors n f = numbered 0x40800000#32 7 n f := if_pos h

theorem anchors_64 (n : ℕ) (h : n < 61440) (f : Fin 4) : anchors (245760 + n) f = numbered 0x41000000#32 6 n f := by
  rw [anchors, if_neg (by omega), if_pos (by omega), Nat.add_sub_cancel_left]

theorem anchors_32 (n : ℕ) (h : n < 15360) (f : Fin 4) : anchors (307200 + n) f = numbered 0x41800000#32 5 n f := by
  rw [anchors, if_neg (by omega), if_neg (by omega), if_pos (by omega), Nat.add_sub_cancel_left]

theorem anchors_16 (n : ℕ) (h : n < 3840) (f : Fin 4) : anchors (322560 + n) f = numbered 0x42000000#32 4 n f := by
  rw [anchors, if_neg (by omega), if_neg (by omega), if_neg (by omega), if_pos (by omega), Nat.add_sub_cancel_left]

theorem anchors_8 (n : ℕ) (f : Fin 4) : anchors (326400 + n) f = numbered 0x42800000#32 3 n f := by
  rw [anchors, if_neg (by omega), if_neg (by omega), if_neg (by omega), if_neg (by omega), Nat.add_sub_cancel_left]

/-- A number shifted right by `s` places. -/
theorem shifted (n s : ℕ) (hn : n < 2 ^ 31) (hs : s < 32) :
    IntOp.shrsi .vector (BitVec.ofNat 32 n) (BitVec.ofNat 32 s) = BitVec.ofNat 32 (n / 2 ^ s) := by
  have h : (BitVec.ofNat 32 s).toNat = s := by rw [BitVec.toNat_ofNat]; omega
  have hm : (BitVec.ofNat 32 n).msb = false := by
    rw [BitVec.msb_eq_false_iff_two_mul_lt, BitVec.toNat_ofNat]; omega
  unfold IntOp.shrsi
  rw [if_pos (by omega), BitVec.sshiftRight', h, BitVec.sshiftRight_eq_of_msb_false hm]
  apply BitVec.eq_of_toNat_eq
  have : n / 2 ^ s ≤ n := Nat.div_le_self _ _
  rw [BitVec.toNat_ushiftRight, Nat.shiftRight_eq_div_pow, BitVec.toNat_ofNat, BitVec.toNat_ofNat,
    Nat.mod_eq_of_lt (by omega), Nat.mod_eq_of_lt (by omega)]

/-- A number's low `p` binary digits. -/
theorem masked (n p : ℕ) (hp : p < 32) :
    IntOp.andi (BitVec.ofNat 32 n) (BitVec.ofNat 32 (2 ^ p - 1)) = BitVec.ofNat 32 (n % 2 ^ p) := by
  have h2 : 2 ^ p ≤ 2 ^ 31 := Nat.pow_le_pow_right (by norm_num) (by omega)
  have h0 : 0 < 2 ^ p := Nat.pos_of_ne_zero (by positivity)
  apply BitVec.eq_of_toNat_eq
  unfold IntOp.andi
  have hl := Nat.mod_lt n h0
  rw [BitVec.toNat_and, BitVec.toNat_ofNat, BitVec.toNat_ofNat, BitVec.toNat_ofNat, Nat.mod_eq_of_lt (a := 2 ^ p - 1) (by omega),
    Nat.and_two_pow_sub_one_eq_mod, Nat.mod_mod_of_dvd _ (pow_dvd_pow 2 (by omega)), Nat.mod_eq_of_lt (a := n % 2 ^ p) (by omega)]

/-- The octave of the shape numbered by the word `k`. -/
abbrev octave (k : BitVec 32) : BitVec 32 := IntOp.shrsi .vector (IntOp.muli k 171#32) 9#32

/-- The place of the shape within its octave. -/
abbrev within (k : BitVec 32) : BitVec 32 := IntOp.subi k (IntOp.muli 3#32 (octave k))

/-- One side of the shape `k`: the octave's size times `a`, one or `b`. -/
abbrev side (a b k : BitVec 32) : EReal :=
  FloatOps.sitofp (F := Ideal) .f32 (IntOp.shli .vector 32#32 (octave k))
    * Scalar.select (IntOp.cmpi .eq (within k) 0#32) (Ideal.ofBits .f32 a)
        (Scalar.select (IntOp.cmpi .eq (within k) 1#32) 1 (Ideal.ofBits .f32 b))

/-- An anchor the way the call writes it, from the words of its row, column and shape. -/
abbrev written (step : BitVec 32) (i j k : BitVec 32) (f : Fin 4) : EReal :=
  Scalar.select (IntOp.cmpi .eq (BitVec.ofNat 32 f) 0#32) (FloatOps.sitofp (F := Ideal) .f32 i * Ideal.ofBits .f32 step)
    (Scalar.select (IntOp.cmpi .eq (BitVec.ofNat 32 f) 1#32) (FloatOps.sitofp (F := Ideal) .f32 j * Ideal.ofBits .f32 step)
      (Scalar.select (IntOp.cmpi .eq (BitVec.ofNat 32 f) 2#32) (side 1060439283#32 1068827891#32 k)
        (side 1068827891#32 1060439283#32 k)))

/-- The width of shape `k`. -/
theorem width (k : Fin 15) :
    side 1060439283#32 1068827891#32 (BitVec.ofNat 32 k) = Ideal.ofBits .f32 (Cert.ReferenceIdeal.lit0 k) := by
  fin_cases k <;> simp [side, octave, within, IntOp.shrsi, IntOp.muli, IntOp.subi, IntOp.shli, IntOp.cmpi, Scalar.select]
  all_goals simp [Ideal.ofBits, Ideal.ieee, FloatOps.sitofp, Cert.ReferenceIdeal.lit0, -EReal.coe_mul]
  all_goals try rw [← EReal.coe_mul]
  all_goals norm_num

/-- The height of shape `k`. -/
theorem height (k : Fin 15) :
    side 1068827891#32 1060439283#32 (BitVec.ofNat 32 k) = Ideal.ofBits .f32 (Cert.ReferenceIdeal.lit1 k) := by
  fin_cases k <;> simp [side, octave, within, IntOp.shrsi, IntOp.muli, IntOp.subi, IntOp.shli, IntOp.cmpi, Scalar.select]
  all_goals simp [Ideal.ofBits, Ideal.ieee, FloatOps.sitofp, Cert.ReferenceIdeal.lit1, -EReal.coe_mul]
  all_goals try rw [← EReal.coe_mul]
  all_goals norm_num

theorem written_eq (step : BitVec 32) (k : Fin 15) (i j : ℕ) (f : Fin 4) :
    written step (BitVec.ofNat 32 i) (BitVec.ofNat 32 j) (BitVec.ofNat 32 k) f = anchor step k i j f := by
  unfold written
  rw [width, height]
  fin_cases f <;> rfl

/-- The anchor numbered `n` in a level of `2 ^ p` rows, as the call writes it. -/
theorem written_of_number (step : BitVec 32) (p n : ℕ) (hp : p < 8) (hn : n < 15 * 2 ^ (2 * p)) (f : Fin 4) :
    written step
        (IntOp.shrsi .vector (IntOp.andi (BitVec.ofNat 32 n) (BitVec.ofNat 32 (2 ^ (2 * p) - 1))) (BitVec.ofNat 32 p))
        (IntOp.andi (IntOp.andi (BitVec.ofNat 32 n) (BitVec.ofNat 32 (2 ^ (2 * p) - 1))) (BitVec.ofNat 32 (2 ^ p - 1)))
        (IntOp.shrsi .vector (BitVec.ofNat 32 n) (BitVec.ofNat 32 (2 * p))) f
      = numbered step p n f := by
  have h2 : 2 ^ (2 * p) ≤ 2 ^ 14 := Nat.pow_le_pow_right (by norm_num) (by omega)
  have hk : n / 2 ^ (2 * p) < 15 := Nat.div_lt_of_lt_mul (by omega)
  have := Nat.mod_le n (2 ^ (2 * p))
  rw [masked _ _ (by omega), shifted _ _ (by omega) (by omega), masked _ _ (by omega), shifted _ _ (by omega) (by omega),
    show n / 2 ^ (2 * p) = ((⟨n / 2 ^ (2 * p) % 15, Nat.mod_lt _ (by norm_num)⟩ : Fin 15) : ℕ) from (Nat.mod_eq_of_lt hk).symm,
    written_eq]
  rfl

/-- Anchor number `n` from its four numbers, each read at a digit of `n`. -/
theorem numbered_of (step : BitVec 32) (p n : ℕ) (hn : n < 15 * 2 ^ (2 * p)) (f : Fin 4) (x y : EReal) (k : Fin 15)
    (w h : Fin 15 → BitVec 32) (hw : w = Cert.ReferenceIdeal.lit0) (hh : h = Cert.ReferenceIdeal.lit1)
    (hk : (k : ℕ) = n / 2 ^ (2 * p))
    (hx : x = FloatOps.sitofp (F := Ideal) .f32 (BitVec.ofNat 32 (n / 2 ^ p % 2 ^ p)) * Ideal.ofBits .f32 step)
    (hy : y = FloatOps.sitofp (F := Ideal) .f32 (BitVec.ofNat 32 (n % 2 ^ p)) * Ideal.ofBits .f32 step) :
    (if _ : (f : ℕ) < 1 then x else if _ : (f : ℕ) - 1 < 1 then y
      else if _ : (f : ℕ) - 1 - 1 < 1 then Ideal.ofBits .f32 (w k) else Ideal.ofBits .f32 (h k)) = numbered step p n f := by
  have e : 2 ^ (2 * p) = 2 ^ p * 2 ^ p := by rw [two_mul, pow_add]
  have hk' : k = ⟨n / 2 ^ (2 * p) % 15, Nat.mod_lt _ (by norm_num)⟩ :=
    Fin.ext (hk.trans (Nat.mod_eq_of_lt (Nat.div_lt_of_lt_mul (by omega))).symm)
  rw [numbered, ← hk', e, Nat.mod_mul_right_div_self, Nat.mod_mul_right_mod, hx, hy, hw, hh]
  fin_cases f <;> rfl

end Cert.Level

end
-- ==== Proof.AnchorStores.lean ====
module

public import proofs.«01_k».proof.Proof.Region0
public import proofs.«01_k».proof.Proof.AnchorWords
public import Idealize.ShloMosaic.Lib.Pipeline.ValueKit

/-!
# The five stores of anchors

Each store of the first call holds the anchors of one level: four rows, one column per anchor.
-/

@[expose] public section

set_option maxRecDepth 100000

noncomputable section

namespace Cert.KernelIdeal.Level0

open Cert.KernelIdeal.Gen Cert.Level
open Idealize.ShloMosaic Idealize.ShloMosaic.TcCoe Idealize.ShloMosaic.Tactic

/-- What the call stores for the level of 128 rows. -/
abbrev store128 : FVec Ideal S4x245760 .f32 :=
  k0_pay15 (F := Ideal) (iota Kind.tc S4x1 32 [0] iota_S4x1_d0_w32) k0_pay6 k0_pay7 k0_pay10 k0_pay11 k0_pay12 k0_pay13 (FloatOps.ofBits FTy.f32 1060439283#32) k0_pay14

theorem stored128 (f : Fin 4) (n : Fin 245760) :
    store128 (ix2 f n)
      = numbered 0x40800000#32 7 n f := by
  unfold store128
  unfold_payloads
  pointwise
  exact written_of_number 0x40800000#32 7 n (by norm_num) n.isLt f

/-- What the call stores for the level of 64 rows. -/
abbrev store64 : FVec Ideal S4x61440 .f32 :=
  k0_pay25 (F := Ideal) k0_pay18 (k0_pay21 (iota Kind.tc S4x1 32 [0] iota_S4x1_d0_w32)) (k0_pay22 (iota Kind.tc S4x1 32 [0] iota_S4x1_d0_w32) k0_pay16 k0_pay20) (k0_pay23 (iota Kind.tc S4x1 32 [0] iota_S4x1_d0_w32)) (k0_pay24 k0_pay19)

theorem stored64 (f : Fin 4) (n : Fin 61440) :
    store64 (ix2 f n)
      = numbered 0x41000000#32 6 n f := by
  unfold store64
  unfold_payloads
  pointwise
  exact written_of_number 0x41000000#32 6 n (by norm_num) n.isLt f

/-- What the call stores for the level of 32 rows. -/
abbrev store32 : FVec Ideal S4x15360 .f32 :=
  k0_pay34 (F := Ideal) (iota Kind.tc S4x1 32 [0] iota_S4x1_d0_w32) k0_pay28 k0_pay29 k0_pay31 k0_pay32 k0_pay33

theorem stored32 (f : Fin 4) (n : Fin 15360) :
    store32 (ix2 f n)
      = numbered 0x41800000#32 5 n f := by
  unfold store32
  unfold_payloads
  pointwise
  exact written_of_number 0x41800000#32 5 n (by norm_num) n.isLt f

/-- What the call stores for the level of 16 rows. -/
abbrev store16 : FVec Ideal S4x3840 .f32 :=
  k0_pay49 (F := Ideal) (k0_pay39 k0_pay38) (k0_pay40 k0_pay37) (k0_pay44 k0_pay35) (k0_pay45 k0_pay35) (k0_pay46 (iota Kind.tc S4x1 32 [0] iota_S4x1_d0_w32)) (k0_pay47 (iota Kind.tc S4x1 32 [0] iota_S4x1_d0_w32)) (k0_pay48 (iota Kind.tc S4x1 32 [0] iota_S4x1_d0_w32))

theorem stored16 (f : Fin 4) (n : Fin 3840) :
    store16 (ix2 f n)
      = numbered 0x42000000#32 4 n f := by
  unfold store16
  unfold_payloads
  pointwise
  exact written_of_number 0x42000000#32 4 n (by norm_num) n.isLt f

/-- What the call stores for the level of 8 rows. -/
abbrev store8 : FVec Ideal S4x960 .f32 :=
  k0_pay58 (F := Ideal) (iota Kind.tc S4x1 32 [0] iota_S4x1_d0_w32) k0_pay52 k0_pay53 k0_pay55 k0_pay56 k0_pay57 1#32

theorem stored8 (f : Fin 4) (n : Fin 960) :
    store8 (ix2 f n)
      = numbered 0x42800000#32 3 n f := by
  unfold store8
  unfold_payloads
  pointwise
  exact written_of_number 0x42800000#32 3 n (by norm_num) n.isLt f

end Cert.KernelIdeal.Level0

end
-- ==== Proof.Level128.lean ====
module

public import proofs.«01_k».proof.Proof.Region0
public import proofs.«01_k».proof.Proof.TailPieces
public import proofs.«01_k».proof.Proof.Outputs

/-!
# The 128×128 level

The call takes the level in eight blocks of sixteen grid rows. Block `p` reads three windows of the level's 16384 lanes:
its own 2048, those one grid row back and those one grid row on; at the level's two ends the window is the block's own,
turned by a grid row, and the row that came round is struck out. Lane `r` of block `p` is lane `2048 · p + r` of the level.
-/

@[expose] public section

set_option maxRecDepth 100000

noncomputable section

namespace Cert.KernelIdeal.Level0

open Cert.KernelIdeal.Gen Cert.Level
open Cert.KernelIdeal.Tails (K0 K1 K2 K3 K4 K5 K6 K7 K8 headOf)
open Idealize.ShloMosaic Idealize.ShloMosaic.TcCoe Idealize.ShloMosaic.Tactic Idealize.ShloMosaic.WordCmp

/-! ## Where the windows start and how far they are turned -/

theorem back_start : ∀ t : Fin cfg0.N, k0_off1 (grid0.coords t) = ![0, 128 * (16 * (grid0.coords t 0).val - 1)] :=
  (by decide +kernel : ∀ t : Fin grid0.N, k0_off1 (grid0.coords t) = ![0, 128 * (16 * (grid0.coords t 0).val - 1)])
theorem on_start : ∀ t : Fin cfg0.N, k0_off2 (grid0.coords t) = ![0, 128 * min (16 * (grid0.coords t 0).val + 1) 112] :=
  (by decide +kernel : ∀ t : Fin grid0.N, k0_off2 (grid0.coords t) = ![0, 128 * min (16 * (grid0.coords t 0).val + 1) 112])
theorem own_start : ∀ t : Fin cfg0.N, k0_off3 (grid0.coords t) = ![0, 2048 * (grid0.coords t 0).val] :=
  (by decide +kernel : ∀ t : Fin grid0.N, k0_off3 (grid0.coords t) = ![0, 2048 * (grid0.coords t 0).val])

theorem back_turn : ∀ p : Fin 8, (Scalar.select (Scalar.cmpi .eq (BitVec.ofNat 32 p.val) 0#32) 128#32 0#32).toNat
    = if p.val = 0 then 128 else 0 := by decide +kernel
theorem on_turn : ∀ p : Fin 8, (Scalar.select (Scalar.cmpi .eq (BitVec.ofNat 32 p.val) 7#32) 1920#32 0#32).toNat
    = if p.val = 7 then 1920 else 0 := by decide +kernel
theorem back_end : ∀ p : Fin 8, Scalar.cmpi .ne (BitVec.ofNat 32 p.val) 0#32 = 1#1 ↔ p.val ≠ 0 := by decide +kernel
theorem on_end : ∀ p : Fin 8, Scalar.cmpi .ne (BitVec.ofNat 32 p.val) 7#32 = 1#1 ↔ p.val ≠ 7 := by decide +kernel

/-- The word of a lane's number in the level. -/
theorem lane_word (p : Fin 8) (r : Fin 2048) :
    IntOp.addi (BitVec.ofNat 32 r.val) (Scalar.muli (BitVec.ofNat 32 p.val) 2048#32) = BitVec.ofNat 32 (r.val + p.val * 2048) := by
  have e : Scalar.muli (BitVec.ofNat 32 p.val) 2048#32 = BitVec.ofNat 32 (p.val * 2048) := by
    revert p; decide +kernel
  rw [e]
  exact (BitVec.ofNat_add ..).symm

/-! ## The three windows -/

variable (x : Vec Ideal S256x16384 .f32) (t : Fin cfg0.N) (c : Fin 256) (r : Fin 2048)

/-- The window one grid row back, as loaded. -/
abbrev backLoad := View.ld x (Rect.unit (k0_off1 (grid0.coords t)) ![256, 2048] (k0_off1_inb (grid0.coords t)))
/-- The window one grid row on, as loaded. -/
abbrev onLoad := View.ld x (Rect.unit (k0_off2 (grid0.coords t)) ![256, 2048] (k0_off2_inb (grid0.coords t)))
/-- The block's own lanes. -/
abbrev ownLoad := View.ld x (Rect.unit (k0_off3 (grid0.coords t)) ![256, 2048] (k0_off3_inb (grid0.coords t)))

abbrev backWin := k0_pay60 (grid0.coords t) (backLoad x t)
abbrev onWin := k0_pay63 (BitVec.ofNat 32 (grid0.coords t 0).val) (k0_pay61 (grid0.coords t) (onLoad x t)) (k0_pay62 (grid0.coords t)) 7#32
abbrev ownWin := k0_pay64 (ownLoad x t)
abbrev columns := k0_pay65 (iota Kind.tc S1x2048 32 [1] iota_S1x2048_d1_w32)

/-- An element of the array of lanes, by its lane's number. -/
theorem eq_lane {a : Fin 256} {b : Fin 16384} {k : ℕ} (ha : a.val = c.val) (hb : b.val = k) : x (ix2 a b) = lane x c k := by
  subst hb
  rw [lane_of_lt b.isLt, Fin.ext ha]

theorem backWin_at : backWin x t (ix2 c r)
    = if 128 ≤ 2048 * (grid0.coords t 0).val + r.val then lane x c (2048 * (grid0.coords t 0).val + r.val - 128) else 0 := by
  unfold backWin backLoad
  unfold_payloads
  pointwise
  have hp : (grid0.coords t 0).val < 8 := (grid0.coords t 0).isLt
  have hr := r.isLt
  by_cases h : 128 ≤ 2048 * (grid0.coords t 0).val + r.val
  · rw [if_pos h]
    refine (if_pos (IntOp.ori_eq_one.mpr ?_)).trans (eq_lane x c ?_ ?_)
    · rw [lane_word (grid0.coords t 0) r]
      exact Or.inl ((cmpi_sge_ofNat_eq_one_iff (w := 32) (by omega) (by omega)).mpr (by omega))
    · simp only [back_start]
      simp
    · simp only [back_start, back_turn (grid0.coords t 0)]
      simp only [Matrix.cons_val_one, Matrix.cons_val_zero]
      split <;> omega
  · rw [if_neg h]
    refine if_neg fun hm => ?_
    rw [lane_word (grid0.coords t 0) r] at hm
    rcases IntOp.ori_eq_one.mp hm with hm | hm
    · exact h (by have := (cmpi_sge_ofNat_eq_one_iff (w := 32) (by omega) (by omega)).mp hm; omega)
    · exact h (by have := (back_end (grid0.coords t 0)).mp hm; omega)

theorem onWin_at : onWin x t (ix2 c r) = lane x c (2048 * (grid0.coords t 0).val + r.val + 128) := by
  unfold onWin onLoad
  unfold_payloads
  pointwise
  have hp : (grid0.coords t 0).val < 8 := (grid0.coords t 0).isLt
  have hr := r.isLt
  by_cases h : 2048 * (grid0.coords t 0).val + r.val + 128 < 16384
  · refine (if_pos (IntOp.ori_eq_one.mpr ?_)).trans (eq_lane x c ?_ ?_)
    · rw [lane_word (grid0.coords t 0) r]
      exact Or.inl ((cmpi_slt_ofNat_eq_one_iff (w := 32) (by omega) (by omega)).mpr (by omega))
    · simp only [on_start]
      simp
    · simp only [on_start, on_turn (grid0.coords t 0)]
      simp only [Matrix.cons_val_one, Matrix.cons_val_zero]
      split <;> omega
  · rw [lane, dif_neg h]
    refine if_neg fun hm => ?_
    rw [lane_word (grid0.coords t 0) r] at hm
    rcases IntOp.ori_eq_one.mp hm with hm | hm
    · exact h (by have := (cmpi_slt_ofNat_eq_one_iff (w := 32) (by omega) (by omega)).mp hm; omega)
    · exact h (by have := (on_end (grid0.coords t 0)).mp hm; omega)

theorem ownWin_at : ownWin x t (ix2 c r) = lane x c (2048 * (grid0.coords t 0).val + r.val) := by
  unfold ownWin ownLoad
  unfold_payloads
  pointwise
  have hp : (grid0.coords t 0).val < 8 := (grid0.coords t 0).isLt
  rw [lane_of_lt (by omega)]
  refine congrArg x (congrArg₂ ix2 (Fin.ext ?_) (Fin.ext ?_)) <;> simp only [own_start] <;> simp

theorem columns_at : columns (ix2 0 r) = BitVec.ofNat 32 ((2048 * (grid0.coords t 0).val + r.val) % 128) := by
  unfold columns
  unfold_payloads
  pointwise
  rw [show (2048 * (grid0.coords t 0).val + r.val) % 128 = r.val % 128 by omega]
  exact flooredRem_ofNat (by omega) (by decide) (by decide)

/-! ## The block's outputs -/

/-- The 75 outputs of every lane of the block. -/
abbrev res128 (x : Vec Ideal S256x16384 .f32) (t : Fin cfg0.N) (w : Vec Ideal S9x256x256 .bf16) (cb : Vec Ideal S256x1 .f32)
    (wh : Vec Ideal S75x256 .bf16) (hb : Vec Ideal S75x1 .f32) : FVec Ideal S75x2048 .f32 :=
  k0_pay1 columns
    (k0_pay68 (backWin x t) (onWin x t) (ownWin x t) columns (k0_pay66 (backWin x t) (ownLoad x t) (K0 w) (K3 w))
      (k0_pay67 (K6 w)) (constant S256x2048 FTy.f32 0#32) (K1 w) (K4 w) (K7 w))
    (k0_pay69 (backWin x t) (onWin x t) (ownWin x t) (K2 w) (K5 w) (K8 w))
    127#32 cb wh hb

/-- Each is the head of the level at the lane's pixel: row `i` of block `p` is row `16 · p + i` of the level. -/
theorem head128 (x : Vec Ideal S256x16384 .f32) (t : Fin cfg0.N) (w : Vec Ideal S9x256x256 .bf16) (cb : Vec Ideal S256x1 .f32)
    (wh : Vec Ideal S75x256 .bf16) (hb : Vec Ideal S75x1 .f32) {X : Fin 256 → ℕ → ℕ → EReal} (hX : IsRow 128 (lane x) X)
    (o : Fin 75) (i : Fin 16) (j : Fin 128) (hn : i.val * 128 + j.val < 2048) :
    res128 x t w cb wh hb (ix2 o ⟨i * 128 + j, hn⟩) = headOf w 128 cb wh hb X o (16 * (grid0.coords t 0).val + i) j := by
  unfold res128 K0 K1 K2 K3 K4 K5 K6 K7 K8
  pointwise [k0_pay1, k0_pay68, k0_pay66, k0_pay67, k0_pay69]
  have hp : (grid0.coords t 0).val < 8 := (grid0.coords t 0).isLt
  simp only [columns_at t, backWin_at, onWin_at, ownWin_at]
  exact head_of_lanes (g := 128) hX (fun k t c => w (ix3 k t c)) (fun t => cb (ix2 t 0)) (fun t => wh (ix2 o t)) (hb (ix2 o 0))
    (i := 16 * (grid0.coords t 0).val + i) (j := j) (n := 2048 * (grid0.coords t 0).val + (i * 128 + j)) (by omega) j.isLt
    (by omega) (by decide) (fun h => by rw [one_back (by omega) hn]; omega)
    (fun h => by rw [one_on rfl (by omega)]; omega) (k := 127) rfl

variable (V : (c : Dev nD) → (b : Ref sig .tc) → Buf (Elt Ideal) ((c : Thread nD τ).loc b))

/-- The block of logits stored: the first fifteen outputs. -/
theorem logits128 (c : Dev nD) (t : Fin cfg0.N) {X : Fin 256 → ℕ → ℕ → EReal} (hX : IsRow 128 (lane (iblk V c 0 t)) X)
    (o : Fin 15) (i : Fin 16) (j : Fin 128) :
    out5 V c t (ix4 0 o i j)
      = headOf (iblk V c 1 t) 128 (iblk V c 2 t) (iblk V c 3 t) (iblk V c 4 t) X ⟨o, by omega⟩ (16 * (grid0.coords t 0).val + i) j := by
  have key := head128 (iblk V c 0 t) t (iblk V c 1 t) (iblk V c 2 t) (iblk V c 3 t) (iblk V c 4 t) hX ⟨o, by omega⟩ i j (by omega)
  unfold out5 stores5
  by_cases h : k0_cond1 (grid0.coords t) = 1#1
  · rw [dif_pos h]
    unfold first runFirst
    frame_out
    refine (congrFun (View.canon_unit_zero (S := S1x15x16x128) (by funext a; fin_cases a <;> rfl) _ _) _).trans ?_
    pointwise [k0_pay2]
    exact key
  · rw [dif_neg h]
    unfold later runLater
    frame_out
    refine (congrFun (View.canon_unit_zero (S := S1x15x16x128) (by funext a; fin_cases a <;> rfl) _ _) _).trans ?_
    pointwise [k0_pay2]
    exact key

/-- The block of boxes stored: the other sixty. -/
theorem boxes128 (c : Dev nD) (t : Fin cfg0.N) {X : Fin 256 → ℕ → ℕ → EReal} (hX : IsRow 128 (lane (iblk V c 0 t)) X)
    (o : Fin 60) (i : Fin 16) (j : Fin 128) :
    out6 V c t (ix4 0 o i j)
      = headOf (iblk V c 1 t) 128 (iblk V c 2 t) (iblk V c 3 t) (iblk V c 4 t) X ⟨15 + o, by omega⟩ (16 * (grid0.coords t 0).val + i) j := by
  have key := head128 (iblk V c 0 t) t (iblk V c 1 t) (iblk V c 2 t) (iblk V c 3 t) (iblk V c 4 t) hX ⟨15 + o, by omega⟩ i j (by omega)
  unfold out6 stores6
  by_cases h : k0_cond1 (grid0.coords t) = 1#1
  · rw [dif_pos h]
    unfold first runFirst
    frame_out
    refine (congrFun (View.canon_unit_zero (S := S1x60x16x128) (by funext a; fin_cases a <;> rfl) _ _) _).trans ?_
    pointwise [k0_pay3]
    exact key
  · rw [dif_neg h]
    unfold later runLater
    frame_out
    refine (congrFun (View.canon_unit_zero (S := S1x60x16x128) (by funext a; fin_cases a <;> rfl) _ _) _).trans ?_
    pointwise [k0_pay3]
    exact key

end Cert.KernelIdeal.Level0

end
-- ==== Proof.Level128Results.lean ====
module

public import proofs.«01_k».proof.Proof.Level128
public import proofs.«01_k».proof.Proof.HostArrays

/-!
# The kernel's results on the 128×128 level

The eight blocks of sixteen grid rows make up the level, and the five operands reach every block whole.
-/

@[expose] public section

set_option maxRecDepth 100000

noncomputable section

namespace Cert.KernelIdeal.Level0

open Cert.KernelIdeal.Gen Cert.Level
open Cert.KernelIdeal.Tails (headOf)
open Idealize.ShloMosaic Idealize.ShloMosaic.TcCoe Idealize.ShloMosaic.Tactic
open Idealize.ShloMosaic.Pipeline (Dat Cfg Window BodyObligation cellOf)

variable (V : (c : Dev nD) → (b : Ref sig .tc) → Buf (Elt Ideal) ((c : Thread nD τ).loc b)) (c : Dev nD)

theorem block0 (t : Fin cfg0.N) : iblk V c 0 t = V c main_v8 := by
  funext y
  unfold iblk
  blk_simp
  blk_ext [(by decide +kernel : ∀ t : Fin grid0.N, win0_0.index t = fun _ => 0) t]
theorem block1 (t : Fin cfg0.N) : iblk V c 1 t = V c main_v2 := by
  funext y
  unfold iblk
  blk_simp
  blk_ext [(by decide +kernel : ∀ t : Fin grid0.N, win0_1.index t = fun _ => 0) t]
theorem block2 (t : Fin cfg0.N) : iblk V c 2 t = V c main_v3 := by
  funext y
  unfold iblk
  blk_simp
  blk_ext [(by decide +kernel : ∀ t : Fin grid0.N, win0_2.index t = fun _ => 0) t]
theorem block3 (t : Fin cfg0.N) : iblk V c 3 t = V c main_v5 := by
  funext y
  unfold iblk
  blk_simp
  blk_ext [(by decide +kernel : ∀ t : Fin grid0.N, win0_3.index t = fun _ => 0) t]
theorem block4 (t : Fin cfg0.N) : iblk V c 4 t = V c main_v7 := by
  funext y
  unfold iblk
  blk_simp
  blk_ext [(by decide +kernel : ∀ t : Fin grid0.N, win0_4.index t = fun _ => 0) t]

/-- The array of logits, block by block. -/
theorem logitsArray128 {X : Fin 256 → ℕ → ℕ → EReal} (hX : IsRow 128 (lane (V c main_v8 : Vec Ideal S256x16384 .f32)) X)
    (o : Fin 15) (i j : Fin 128) :
    ((dat V c).arrAt 5 cfg0.N : Vec Ideal S1x15x128x128 .f32) (ix4 0 o i j)
      = headOf (V c main_v2) 128 (V c main_v3) (V c main_v5) (V c main_v7) X ⟨o, by omega⟩ i j := by
  have hG : (dat V c).arrAt 5 cfg0.N = fun y : S1x15x128x128.Idx =>
      headOf (V c main_v2) 128 (V c main_v3) (V c main_v5) (V c main_v7) X ⟨(y 1), by have : (y 1).val < 15 := (y 1).isLt; omega⟩ (y 2).val (y 3).val := by
    refine (dat V c).arrAt_eq_of_covers 5 _ (by decide +kernel) fun t hf y => ?_
    blk_simp
    rw [after_5]
    have e := (by decide +kernel : ∀ t : Fin grid0.N, win0_5.index t = ![0, 0, (grid0.coords t 0).val, 0]) t
    have key := logits128 V c t (X := X) (by rw [block0 V c t]; exact hX) (y 1) (y 2) (y 3)
    rw [block1 V c t, block2 V c t, block3 V c t, block4 V c t] at key
    have ey : y = ix4 (0 : Fin 1) (y 1 : Fin 15) (y 2 : Fin 16) (y 3 : Fin 128) := by
      funext a
      fin_cases a
      · exact Subsingleton.elim (α := Fin 1) _ _
      all_goals rfl
    refine (congrArg (out5 V c t) ey).trans (key.trans ?_)
    congr 1
    · exact Fin.ext (by simp [e])
    · simp [e, Nat.mul_comm]
    · simp [e]
  exact congrFun hG (ix4 0 o i j)

/-- The array of boxes, block by block. -/
theorem boxesArray128 {X : Fin 256 → ℕ → ℕ → EReal} (hX : IsRow 128 (lane (V c main_v8 : Vec Ideal S256x16384 .f32)) X)
    (o : Fin 60) (i j : Fin 128) :
    ((dat V c).arrAt 6 cfg0.N : Vec Ideal S1x60x128x128 .f32) (ix4 0 o i j)
      = headOf (V c main_v2) 128 (V c main_v3) (V c main_v5) (V c main_v7) X ⟨15 + o, by omega⟩ i j := by
  have hG : (dat V c).arrAt 6 cfg0.N = fun y : S1x60x128x128.Idx =>
      headOf (V c main_v2) 128 (V c main_v3) (V c main_v5) (V c main_v7) X ⟨15 + (y 1), by have : (y 1).val < 60 := (y 1).isLt; omega⟩ (y 2).val (y 3).val := by
    refine (dat V c).arrAt_eq_of_covers 6 _ (by decide +kernel) fun t hf y => ?_
    blk_simp
    rw [after_6]
    have e := (by decide +kernel : ∀ t : Fin grid0.N, win0_6.index t = ![0, 0, (grid0.coords t 0).val, 0]) t
    have key := boxes128 V c t (X := X) (by rw [block0 V c t]; exact hX) (y 1) (y 2) (y 3)
    rw [block1 V c t, block2 V c t, block3 V c t, block4 V c t] at key
    have ey : y = ix4 (0 : Fin 1) (y 1 : Fin 60) (y 2 : Fin 16) (y 3 : Fin 128) := by
      funext a
      fin_cases a
      · exact Subsingleton.elim (α := Fin 1) _ _
      all_goals rfl
    refine (congrArg (out6 V c t) ey).trans (key.trans ?_)
    congr 1
    · exact Fin.ext (by simp [e])
    · simp [e, Nat.mul_comm]
    · simp [e]
  exact congrFun hG (ix4 0 o i j)

end Cert.KernelIdeal.Level0

namespace Cert.KernelIdeal.Launched

open Cert.KernelIdeal.Gen Cert.Level
open Idealize.ShloMosaic Idealize.ShloMosaic.TcCoe Idealize.ShloMosaic.Tactic

variable (m : (ℓ : Loc nD τ sig) → Buf (Elt Ideal) ℓ) (ρ : Dev nD → PrngReg) (c : Dev nD)

/-- What the first call wrote and nothing wrote since. -/
theorem kept (r : Ref sig .tc) (h : r ∉ written1 ∧ r ∉ written2) (h' : ∀ w : Fin cfg1.W, Pipeline.arrRef spec1 w ≠ r) :
    W5 m ρ c (Proc.devRef .tc r) = W2 m ρ c (Proc.devRef .tc r) :=
  (W5_of m ρ c r h.2).trans ((W4_of_ne m ρ c r h').trans (W3_of m ρ c r h.1))

theorem logits128 (o : Fin 15) (i j : Fin 128) :
    (W5 m ρ c (Proc.devRef .tc main_v9_0) : Vec Ideal S1x15x128x128 .f32) (ix4 0 o i j)
      = output (m ((c : Thread nD τ).loc main_arg1) : Vec Ideal S1x256x128x128 .f32) (m ((c : Thread nD τ).loc main_arg6) : Vec Ideal S256x256x3x3 .f32)
          (m ((c : Thread nD τ).loc main_arg7) : Vec Ideal S256 .f32) (m ((c : Thread nD τ).loc main_arg8) : Vec Ideal S15x256 .f32)
          (m ((c : Thread nD τ).loc main_arg9) : Vec Ideal S15 .f32) o i j := by
  rw [kept m ρ c main_v9_0 (by decide) (by decide +kernel)]
  refine (congrFun (W2_arr m ρ c 5) (ix4 0 o i j)).trans ?_
  refine (Level0.logitsArray128 (V1 m ρ) c (row128 m ρ c) o i j).trans ?_
  exact head_logits m ρ c _ o i j

theorem boxes128 (o : Fin 60) (i j : Fin 128) :
    (W5 m ρ c (Proc.devRef .tc main_v9_1) : Vec Ideal S1x60x128x128 .f32) (ix4 0 o i j)
      = output (m ((c : Thread nD τ).loc main_arg1) : Vec Ideal S1x256x128x128 .f32) (m ((c : Thread nD τ).loc main_arg6) : Vec Ideal S256x256x3x3 .f32)
          (m ((c : Thread nD τ).loc main_arg7) : Vec Ideal S256 .f32) (m ((c : Thread nD τ).loc main_arg10) : Vec Ideal S60x256 .f32)
          (m ((c : Thread nD τ).loc main_arg11) : Vec Ideal S60 .f32) o i j := by
  rw [kept m ρ c main_v9_1 (by decide) (by decide +kernel)]
  refine (congrFun (W2_arr m ρ c 6) (ix4 0 o i j)).trans ?_
  refine (Level0.boxesArray128 (V1 m ρ) c (row128 m ρ c) o i j).trans ?_
  exact head_boxes m ρ c _ o i j

end Cert.KernelIdeal.Launched

end
-- ==== Proof.AnchorResult.lean ====
module

public import proofs.«01_k».proof.Proof.AnchorStores
public import proofs.«01_k».proof.Proof.Level128Results
public import Idealize.ShloMosaic.Lib.StableHlo.ReadAt

/-!
# The array of anchors

The first call's five stores of anchors fill its array, four rows of 327360 columns; the last host operation transposes
it.
-/

@[expose] public section

set_option maxRecDepth 100000

noncomputable section

namespace Cert.KernelIdeal.Level0

open Cert.KernelIdeal.Gen Cert.Level
open Idealize.ShloMosaic Idealize.ShloMosaic.TcCoe Idealize.ShloMosaic.Tactic
open Idealize.ShloMosaic.Pipeline (Dat Cfg Window BodyObligation cellOf)

variable (V : (c : Dev nD) → (b : Ref sig .tc) → Buf (Elt Ideal) ((c : Thread nD τ).loc b)) (c : Dev nD)

/-- The five stores fill the array. -/
theorem filled (y : S4x327360.Idx) (p0 p1 p2 p3 p4) : ∃ p ∈ ([
      ⟨Rect.unit ![0, 326400] ![4, 960] inb_S4x327360_S4x960_0_326400, p0⟩,
      ⟨Rect.unit ![0, 322560] ![4, 3840] inb_S4x327360_S4x3840_0_322560, p1⟩,
      ⟨Rect.unit ![0, 307200] ![4, 15360] inb_S4x327360_S4x15360_0_307200, p2⟩,
      ⟨Rect.unit ![0, 245760] ![4, 61440] inb_S4x327360_S4x61440_0_245760, p3⟩,
      ⟨Rect.unit ![0, 0] ![4, 245760] inb_S4x327360_S4x245760_0_0, p4⟩] :
        List (View.Piece (Elt Ideal) S4x327360 .f32)), y ∈ p.fst.set := by
  have h0 : (y 0 : ℕ) < 4 := (y 0).isLt
  have h1 : (y 1 : ℕ) < 327360 := (y 1).isLt
  simp only [List.mem_cons, List.not_mem_nil, or_false, exists_eq_or_imp, exists_eq_left]
  simp only [Rect.mem_set_unit, Fin.forall_fin_two]
  simp
  omega

/-- The array of anchors, column by column. -/
theorem anchorBlock (y : S4x327360.Idx) : (out7 V c : Vec Ideal S4x327360 .f32) y = anchors (y 1) (y 0) := by
  unfold out7 stores7
  unfold first runFirst
  frame_out
  canon_tiles x h using filled y _ _ _ _ _
  · exact (congrArg store8 (show x = ix2 (x 0) (x 1) by funext a; fin_cases a <;> rfl)).trans
      ((stored8 _ _).trans ((congrArg₂ anchors h1 (Fin.ext h0)).trans (anchors_8 _ _)).symm)
  · exact (congrArg store16 (show x = ix2 (x 0) (x 1) by funext a; fin_cases a <;> rfl)).trans
      ((stored16 _ _).trans ((congrArg₂ anchors h1 (Fin.ext h0)).trans (anchors_16 _ x1_lt _)).symm)
  · exact (congrArg store32 (show x = ix2 (x 0) (x 1) by funext a; fin_cases a <;> rfl)).trans
      ((stored32 _ _).trans ((congrArg₂ anchors h1 (Fin.ext h0)).trans (anchors_32 _ x1_lt _)).symm)
  · exact (congrArg store64 (show x = ix2 (x 0) (x 1) by funext a; fin_cases a <;> rfl)).trans
      ((stored64 _ _).trans ((congrArg₂ anchors h1 (Fin.ext h0)).trans (anchors_64 _ x1_lt _)).symm)
  · exact (congrArg store128 (show x = ix2 (x 0) (x 1) by funext a; fin_cases a <;> rfl)).trans
      ((stored128 _ _).trans ((congrArg₂ anchors h1 (Fin.ext h0)).trans (anchors_128 _ x1_lt _)).symm)

/-- The array of anchors after the call. -/
theorem anchorArray (f : Fin 4) (n : Fin 327360) :
    ((dat V c).arrAt 7 cfg0.N : Vec Ideal S4x327360 .f32) (ix2 f n) = anchors n f := by
  have hG : (dat V c).arrAt 7 cfg0.N = out7 V c := by
    refine (dat V c).arrAt_eq_of_after_last 7 t0_7 (by decide +kernel) _ fun y => ?_
    blk_simp
    rw [after_7]
  rw [hG]
  exact anchorBlock V c _

end Cert.KernelIdeal.Level0

namespace Cert.KernelIdeal.Launched

open Cert.KernelIdeal.Gen Cert.Level
open Idealize.ShloMosaic Idealize.ShloMosaic.TcCoe Idealize.ShloMosaic.Tactic

variable (m : (ℓ : Loc nD τ sig) → Buf (Elt Ideal) ℓ) (ρ : Dev nD → PrngReg) (c : Dev nD)

theorem anchorRows (n : Fin 327360) (f : Fin 4) :
    (W5 m ρ c (Proc.devRef .tc main_v15) : Vec Ideal S327360x4 .f32) (ix2 n f) = anchors n f := by
  have ht : (W5 m ρ c (Proc.devRef .tc main_v15) : Vec Ideal S327360x4 .f32) (ix2 n f)
      = (W4 m ρ c (Proc.devRef .tc main_v9_2) : Vec Ideal S4x327360 .f32) (ix2 f n) := by
    unfold W5 hostOps2
    after_reads_at
  rw [ht, W4_of_ne m ρ c main_v9_2 (by decide +kernel), W3_of m ρ c main_v9_2 (by decide)]
  refine (congrFun (W2_arr m ρ c 7) (ix2 f n)).trans ?_
  exact Level0.anchorArray (V1 m ρ) c f n

end Cert.KernelIdeal.Launched

end
-- ==== Proof.ReferenceLevels.lean ====
module

public import proofs.«01_k».proof.Proof.Gen.ReferenceIdeal.Run
public import proofs.«01_k».proof.Proof.Outputs
public import Idealize.ShloMosaic.Lib.Pipeline.ValueKit
public import Idealize.ShloMosaic.Lib.Tactic.CleanTypes

/-!
# The reference's logits and boxes

On each level the padded pixels, then the rectified convolution, then the two heads, read entry by entry.
-/

@[expose] public section

set_option maxRecDepth 100000

noncomputable section

namespace Cert.ReferenceIdeal.Value

open Cert.ReferenceIdeal Cert.Level
open Idealize.ShloMosaic Idealize.ShloMosaic.TcCoe Idealize.ShloMosaic.Tactic Idealize.ShloMosaic.StableHlo Idealize.SL.Sem

section Terms

variable (V : Valuation τ sig (Elt Ideal))

theorem padded128 (ch : Fin 256) (a b : Fin 130) :
    (res_main_v27 V : Vec Ideal S256x130x130 .f32) (ix3 ch a b) = bordered 128 (pixels (V (Proc.devRef .tc main_arg1) : Vec Ideal S1x256x128x128 .f32)) ch a b := by
  unfold res_main_v27
  clean_types
  pointwise
  exact bordered_pixels (V (Proc.devRef .tc main_arg1) : Vec Ideal S1x256x128x128 .f32) ch a b

theorem rectified128 (t : Fin 256) (i j : Fin 128) :
    (res_main_v76 V : Vec Ideal S256x128x128 .f32) (ix3 t i j)
      = max (conv 128 (fun dy dx t c => (V (Proc.devRef .tc main_arg6) : Vec Ideal S256x256x3x3 .f32) (ix4 t c dy dx))
          (pixels (V (Proc.devRef .tc main_arg1) : Vec Ideal S1x256x128x128 .f32)) t i j + (V (Proc.devRef .tc main_arg7) : Vec Ideal S256 .f32) (ix1 t)) 0 := by
  unfold res_main_v76
  clean_types
  pointwise
  simp only [padded128]
  rw [← conv_of_nine]

theorem padded64 (ch : Fin 256) (a b : Fin 66) :
    (res_main_v104 V : Vec Ideal S256x66x66 .f32) (ix3 ch a b) = bordered 64 (pixels (V (Proc.devRef .tc main_arg2) : Vec Ideal S1x256x64x64 .f32)) ch a b := by
  unfold res_main_v104
  clean_types
  pointwise
  exact bordered_pixels (V (Proc.devRef .tc main_arg2) : Vec Ideal S1x256x64x64 .f32) ch a b

theorem rectified64 (t : Fin 256) (i j : Fin 64) :
    (res_main_v153 V : Vec Ideal S256x64x64 .f32) (ix3 t i j)
      = max (conv 64 (fun dy dx t c => (V (Proc.devRef .tc main_arg6) : Vec Ideal S256x256x3x3 .f32) (ix4 t c dy dx))
          (pixels (V (Proc.devRef .tc main_arg2) : Vec Ideal S1x256x64x64 .f32)) t i j + (V (Proc.devRef .tc main_arg7) : Vec Ideal S256 .f32) (ix1 t)) 0 := by
  unfold res_main_v153
  clean_types
  pointwise
  simp only [padded64]
  rw [← conv_of_nine]

theorem padded32 (ch : Fin 256) (a b : Fin 34) :
    (res_main_v181 V : Vec Ideal S256x34x34 .f32) (ix3 ch a b) = bordered 32 (pixels (V (Proc.devRef .tc main_arg3) : Vec Ideal S1x256x32x32 .f32)) ch a b := by
  unfold res_main_v181
  clean_types
  pointwise
  exact bordered_pixels (V (Proc.devRef .tc main_arg3) : Vec Ideal S1x256x32x32 .f32) ch a b

theorem rectified32 (t : Fin 256) (i j : Fin 32) :
    (res_main_v230 V : Vec Ideal S256x32x32 .f32) (ix3 t i j)
      = max (conv 32 (fun dy dx t c => (V (Proc.devRef .tc main_arg6) : Vec Ideal S256x256x3x3 .f32) (ix4 t c dy dx))
          (pixels (V (Proc.devRef .tc main_arg3) : Vec Ideal S1x256x32x32 .f32)) t i j + (V (Proc.devRef .tc main_arg7) : Vec Ideal S256 .f32) (ix1 t)) 0 := by
  unfold res_main_v230
  clean_types
  pointwise
  simp only [padded32]
  rw [← conv_of_nine]

theorem padded16 (ch : Fin 256) (a b : Fin 18) :
    (res_main_v258 V : Vec Ideal S256x18x18 .f32) (ix3 ch a b) = bordered 16 (pixels (V (Proc.devRef .tc main_arg4) : Vec Ideal S1x256x16x16 .f32)) ch a b := by
  unfold res_main_v258
  clean_types
  pointwise
  exact bordered_pixels (V (Proc.devRef .tc main_arg4) : Vec Ideal S1x256x16x16 .f32) ch a b

theorem rectified16 (t : Fin 256) (i j : Fin 16) :
    (res_main_v307 V : Vec Ideal S256x16x16 .f32) (ix3 t i j)
      = max (conv 16 (fun dy dx t c => (V (Proc.devRef .tc main_arg6) : Vec Ideal S256x256x3x3 .f32) (ix4 t c dy dx))
          (pixels (V (Proc.devRef .tc main_arg4) : Vec Ideal S1x256x16x16 .f32)) t i j + (V (Proc.devRef .tc main_arg7) : Vec Ideal S256 .f32) (ix1 t)) 0 := by
  unfold res_main_v307
  clean_types
  pointwise
  simp only [padded16]
  rw [← conv_of_nine]

theorem padded8 (ch : Fin 256) (a b : Fin 10) :
    (res_main_v335 V : Vec Ideal S256x10x10 .f32) (ix3 ch a b) = bordered 8 (pixels (V (Proc.devRef .tc main_arg5) : Vec Ideal S1x256x8x8 .f32)) ch a b := by
  unfold res_main_v335
  clean_types
  pointwise
  exact bordered_pixels (V (Proc.devRef .tc main_arg5) : Vec Ideal S1x256x8x8 .f32) ch a b

theorem rectified8 (t : Fin 256) (i j : Fin 8) :
    (res_main_v384 V : Vec Ideal S256x8x8 .f32) (ix3 t i j)
      = max (conv 8 (fun dy dx t c => (V (Proc.devRef .tc main_arg6) : Vec Ideal S256x256x3x3 .f32) (ix4 t c dy dx))
          (pixels (V (Proc.devRef .tc main_arg5) : Vec Ideal S1x256x8x8 .f32)) t i j + (V (Proc.devRef .tc main_arg7) : Vec Ideal S256 .f32) (ix1 t)) 0 := by
  unfold res_main_v384
  clean_types
  pointwise
  simp only [padded8]
  rw [← conv_of_nine]

end Terms

variable (m : (ℓ : Loc nD τ sig) → Buf (Elt Ideal) ℓ) (ρ : Dev nD → PrngReg)

/-- What the reference returns: the anchors' term, and the outputs of the five levels over the arguments. -/
theorem returned : θ_run defs (onTc (τ := τ) (main (F := Ideal))) ⟨m, fun _ => 0, ρ⟩ fun r => ∀ c : Dev nD,
    r.2.mem ((c.tc : Thread nD τ).loc main_v395) = res_main_v395 (launchContents m c)
    ∧ (r.2.mem ((c.tc : Thread nD τ).loc main_v85) : Vec Ideal S1x15x128x128 .f32)
        = outputs (m ((c : Thread nD τ).loc main_arg1) : Vec Ideal S1x256x128x128 .f32) (m ((c : Thread nD τ).loc main_arg6) : Vec Ideal S256x256x3x3 .f32)
            (m ((c : Thread nD τ).loc main_arg7) : Vec Ideal S256 .f32) (m ((c : Thread nD τ).loc main_arg8) : Vec Ideal S15x256 .f32) (m ((c : Thread nD τ).loc main_arg9) : Vec Ideal S15 .f32)
    ∧ (r.2.mem ((c.tc : Thread nD τ).loc main_v162) : Vec Ideal S1x15x64x64 .f32)
        = outputs (m ((c : Thread nD τ).loc main_arg2) : Vec Ideal S1x256x64x64 .f32) (m ((c : Thread nD τ).loc main_arg6) : Vec Ideal S256x256x3x3 .f32)
            (m ((c : Thread nD τ).loc main_arg7) : Vec Ideal S256 .f32) (m ((c : Thread nD τ).loc main_arg8) : Vec Ideal S15x256 .f32) (m ((c : Thread nD τ).loc main_arg9) : Vec Ideal S15 .f32)
    ∧ (r.2.mem ((c.tc : Thread nD τ).loc main_v239) : Vec Ideal S1x15x32x32 .f32)
        = outputs (m ((c : Thread nD τ).loc main_arg3) : Vec Ideal S1x256x32x32 .f32) (m ((c : Thread nD τ).loc main_arg6) : Vec Ideal S256x256x3x3 .f32)
            (m ((c : Thread nD τ).loc main_arg7) : Vec Ideal S256 .f32) (m ((c : Thread nD τ).loc main_arg8) : Vec Ideal S15x256 .f32) (m ((c : Thread nD τ).loc main_arg9) : Vec Ideal S15 .f32)
    ∧ (r.2.mem ((c.tc : Thread nD τ).loc main_v316) : Vec Ideal S1x15x16x16 .f32)
        = outputs (m ((c : Thread nD τ).loc main_arg4) : Vec Ideal S1x256x16x16 .f32) (m ((c : Thread nD τ).loc main_arg6) : Vec Ideal S256x256x3x3 .f32)
            (m ((c : Thread nD τ).loc main_arg7) : Vec Ideal S256 .f32) (m ((c : Thread nD τ).loc main_arg8) : Vec Ideal S15x256 .f32) (m ((c : Thread nD τ).loc main_arg9) : Vec Ideal S15 .f32)
    ∧ (r.2.mem ((c.tc : Thread nD τ).loc main_v393) : Vec Ideal S1x15x8x8 .f32)
        = outputs (m ((c : Thread nD τ).loc main_arg5) : Vec Ideal S1x256x8x8 .f32) (m ((c : Thread nD τ).loc main_arg6) : Vec Ideal S256x256x3x3 .f32)
            (m ((c : Thread nD τ).loc main_arg7) : Vec Ideal S256 .f32) (m ((c : Thread nD τ).loc main_arg8) : Vec Ideal S15x256 .f32) (m ((c : Thread nD τ).loc main_arg9) : Vec Ideal S15 .f32)
    ∧ (r.2.mem ((c.tc : Thread nD τ).loc main_v86) : Vec Ideal S1x60x128x128 .f32)
        = outputs (m ((c : Thread nD τ).loc main_arg1) : Vec Ideal S1x256x128x128 .f32) (m ((c : Thread nD τ).loc main_arg6) : Vec Ideal S256x256x3x3 .f32)
            (m ((c : Thread nD τ).loc main_arg7) : Vec Ideal S256 .f32) (m ((c : Thread nD τ).loc main_arg10) : Vec Ideal S60x256 .f32) (m ((c : Thread nD τ).loc main_arg11) : Vec Ideal S60 .f32)
    ∧ (r.2.mem ((c.tc : Thread nD τ).loc main_v163) : Vec Ideal S1x60x64x64 .f32)
        = outputs (m ((c : Thread nD τ).loc main_arg2) : Vec Ideal S1x256x64x64 .f32) (m ((c : Thread nD τ).loc main_arg6) : Vec Ideal S256x256x3x3 .f32)
            (m ((c : Thread nD τ).loc main_arg7) : Vec Ideal S256 .f32) (m ((c : Thread nD τ).loc main_arg10) : Vec Ideal S60x256 .f32) (m ((c : Thread nD τ).loc main_arg11) : Vec Ideal S60 .f32)
    ∧ (r.2.mem ((c.tc : Thread nD τ).loc main_v240) : Vec Ideal S1x60x32x32 .f32)
        = outputs (m ((c : Thread nD τ).loc main_arg3) : Vec Ideal S1x256x32x32 .f32) (m ((c : Thread nD τ).loc main_arg6) : Vec Ideal S256x256x3x3 .f32)
            (m ((c : Thread nD τ).loc main_arg7) : Vec Ideal S256 .f32) (m ((c : Thread nD τ).loc main_arg10) : Vec Ideal S60x256 .f32) (m ((c : Thread nD τ).loc main_arg11) : Vec Ideal S60 .f32)
    ∧ (r.2.mem ((c.tc : Thread nD τ).loc main_v317) : Vec Ideal S1x60x16x16 .f32)
        = outputs (m ((c : Thread nD τ).loc main_arg4) : Vec Ideal S1x256x16x16 .f32) (m ((c : Thread nD τ).loc main_arg6) : Vec Ideal S256x256x3x3 .f32)
            (m ((c : Thread nD τ).loc main_arg7) : Vec Ideal S256 .f32) (m ((c : Thread nD τ).loc main_arg10) : Vec Ideal S60x256 .f32) (m ((c : Thread nD τ).loc main_arg11) : Vec Ideal S60 .f32)
    ∧ (r.2.mem ((c.tc : Thread nD τ).loc main_v394) : Vec Ideal S1x60x8x8 .f32)
        = outputs (m ((c : Thread nD τ).loc main_arg5) : Vec Ideal S1x256x8x8 .f32) (m ((c : Thread nD τ).loc main_arg6) : Vec Ideal S256x256x3x3 .f32)
            (m ((c : Thread nD τ).loc main_arg7) : Vec Ideal S256 .f32) (m ((c : Thread nD τ).loc main_arg10) : Vec Ideal S60x256 .f32) (m ((c : Thread nD τ).loc main_arg11) : Vec Ideal S60 .f32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) := by
  refine (θ_run defs _ _).mono (fun r h c => ?_) (run m ρ)
  obtain ⟨h0, h1, h2, h3, h4, h5, h6, h7, h8, h9, h10, hargs⟩ := h c
  refine ⟨h0, h1.trans ?_, h2.trans ?_, h3.trans ?_, h4.trans ?_, h5.trans ?_, h6.trans ?_, h7.trans ?_, h8.trans ?_,
    h9.trans ?_, h10.trans ?_, hargs⟩
  all_goals
    refine eq_outputs fun o i j => ?_
    clean_types
    pointwise
    simp only [rectified128, rectified64, rectified32, rectified16, rectified8]
    rfl

end Cert.ReferenceIdeal.Value

end
-- ==== Proof.ReferenceAnchors.lean ====
module

public import proofs.«01_k».proof.Proof.AnchorWords
public import Idealize.ShloMosaic.Lib.Tactic.CleanTypes
public import Idealize.ShloMosaic.Lib.Pipeline.ValueKit

/-!
# The reference's anchors

The reference lists the anchors of each level, four numbers to a row, and joins the five lists.
-/

@[expose] public section

set_option maxRecDepth 100000

noncomputable section

namespace Cert.ReferenceIdeal.Value

open Cert.ReferenceIdeal Cert.ReferenceIdeal.Gen Cert.Level
open Idealize.ShloMosaic Idealize.ShloMosaic.TcCoe Idealize.ShloMosaic.Tactic

variable (V : Valuation τ sig (Elt Ideal))

/-- The reference's anchors of the level of 128 rows. -/
abbrev list128 : FVec Ideal S245760x4 .f32 :=
  shapeCast S245760x4 (concatenate S15x128x128x4 3
    [⟨S15x128x128x1, broadcastInDim S15x128x128x1 ![0, 1, 2] bcast_S15x128x128_S15x128x128x1_0_1_2 (broadcastInDim S15x128x128 ![0, 1, 2] bcast_S1x128x1_S15x128x128_0_1_2
      (broadcastInDim S1x128x1 ![1] bcast_S128_S1x128x1_1 (res_main_v13 V)))⟩,
     ⟨S15x128x128x1, broadcastInDim S15x128x128x1 ![0, 1, 2] bcast_S15x128x128_S15x128x128x1_0_1_2 (broadcastInDim S15x128x128 ![0, 1, 2] bcast_S1x1x128_S15x128x128_0_1_2
      (broadcastInDim S1x1x128 ![2] bcast_S128_S1x1x128_2 (res_main_v13 V)))⟩,
     ⟨S15x128x128x1, broadcastInDim S15x128x128x1 ![0, 1, 2] bcast_S15x128x128_S15x128x128x1_0_1_2 (broadcastInDim S15x128x128 ![0, 1, 2] bcast_S15x1x1_S15x128x128_0_1_2
      (broadcastInDim S15x1x1 ![0] bcast_S15_S15x1x1_0 fun i => FloatOps.ofBits .f32 (lit0 (S15.rowMajor i))))⟩,
     ⟨S15x128x128x1, broadcastInDim S15x128x128x1 ![0, 1, 2] bcast_S15x128x128_S15x128x128x1_0_1_2 (broadcastInDim S15x128x128 ![0, 1, 2] bcast_S15x1x1_S15x128x128_0_1_2
      (broadcastInDim S15x1x1 ![0] bcast_S15_S15x1x1_0 fun i => FloatOps.ofBits .f32 (lit1 (S15.rowMajor i))))⟩]
    concatenates_S15x128x128x1_S15x128x128x1_S15x128x128x1_S15x128x128x1_S15x128x128x4_d3) shapeCasts_S15x128x128x4_S245760x4

theorem steps128 (i : Fin 128) : (res_main_v13 V : FVec Ideal S128 .f32) (ix1 i)
    = FloatOps.sitofp (F := Ideal) .f32 (BitVec.ofNat 32 i) * Ideal.ofBits .f32 0x40800000#32 := by
  unfold res_main_v13
  clean_types
  pointwise

theorem listed128 (n : Fin 245760) (f : Fin 4) : list128 V (ix2 n f) = numbered 0x40800000#32 7 n f := by
  unfold list128
  pointwise
  have key := numbered_of 0x40800000#32 7 n (by norm_num) f _ _ (S15.rowMajor (ix1 ⟨n / 16384, by omega⟩)) lit0 lit1
    rfl rfl (Shape.rowMajor_val_one _) (steps128 V ⟨n / 128 % 128, by omega⟩) (steps128 V ⟨n % 128, by omega⟩)
  exact key

/-- The reference's anchors of the level of 64 rows. -/
abbrev list64 : FVec Ideal S61440x4 .f32 :=
  shapeCast S61440x4 (concatenate S15x64x64x4 3
    [⟨S15x64x64x1, broadcastInDim S15x64x64x1 ![0, 1, 2] bcast_S15x64x64_S15x64x64x1_0_1_2 (broadcastInDim S15x64x64 ![0, 1, 2] bcast_S1x64x1_S15x64x64_0_1_2
      (broadcastInDim S1x64x1 ![1] bcast_S64_S1x64x1_1 (res_main_v90 V)))⟩,
     ⟨S15x64x64x1, broadcastInDim S15x64x64x1 ![0, 1, 2] bcast_S15x64x64_S15x64x64x1_0_1_2 (broadcastInDim S15x64x64 ![0, 1, 2] bcast_S1x1x64_S15x64x64_0_1_2
      (broadcastInDim S1x1x64 ![2] bcast_S64_S1x1x64_2 (res_main_v90 V)))⟩,
     ⟨S15x64x64x1, broadcastInDim S15x64x64x1 ![0, 1, 2] bcast_S15x64x64_S15x64x64x1_0_1_2 (broadcastInDim S15x64x64 ![0, 1, 2] bcast_S15x1x1_S15x64x64_0_1_2
      (broadcastInDim S15x1x1 ![0] bcast_S15_S15x1x1_0 fun i => FloatOps.ofBits .f32 (lit2 (S15.rowMajor i))))⟩,
     ⟨S15x64x64x1, broadcastInDim S15x64x64x1 ![0, 1, 2] bcast_S15x64x64_S15x64x64x1_0_1_2 (broadcastInDim S15x64x64 ![0, 1, 2] bcast_S15x1x1_S15x64x64_0_1_2
      (broadcastInDim S15x1x1 ![0] bcast_S15_S15x1x1_0 fun i => FloatOps.ofBits .f32 (lit3 (S15.rowMajor i))))⟩]
    concatenates_S15x64x64x1_S15x64x64x1_S15x64x64x1_S15x64x64x1_S15x64x64x4_d3) shapeCasts_S15x64x64x4_S61440x4

theorem steps64 (i : Fin 64) : (res_main_v90 V : FVec Ideal S64 .f32) (ix1 i)
    = FloatOps.sitofp (F := Ideal) .f32 (BitVec.ofNat 32 i) * Ideal.ofBits .f32 0x41000000#32 := by
  unfold res_main_v90
  clean_types
  pointwise

theorem listed64 (n : Fin 61440) (f : Fin 4) : list64 V (ix2 n f) = numbered 0x41000000#32 6 n f := by
  unfold list64
  pointwise
  have key := numbered_of 0x41000000#32 6 n (by norm_num) f _ _ (S15.rowMajor (ix1 ⟨n / 4096, by omega⟩)) lit2 lit3
    rfl rfl (Shape.rowMajor_val_one _) (steps64 V ⟨n / 64 % 64, by omega⟩) (steps64 V ⟨n % 64, by omega⟩)
  exact key

/-- The reference's anchors of the level of 32 rows. -/
abbrev list32 : FVec Ideal S15360x4 .f32 :=
  shapeCast S15360x4 (concatenate S15x32x32x4 3
    [⟨S15x32x32x1, broadcastInDim S15x32x32x1 ![0, 1, 2] bcast_S15x32x32_S15x32x32x1_0_1_2 (broadcastInDim S15x32x32 ![0, 1, 2] bcast_S1x32x1_S15x32x32_0_1_2
      (broadcastInDim S1x32x1 ![1] bcast_S32_S1x32x1_1 (res_main_v167 V)))⟩,
     ⟨S15x32x32x1, broadcastInDim S15x32x32x1 ![0, 1, 2] bcast_S15x32x32_S15x32x32x1_0_1_2 (broadcastInDim S15x32x32 ![0, 1, 2] bcast_S1x1x32_S15x32x32_0_1_2
      (broadcastInDim S1x1x32 ![2] bcast_S32_S1x1x32_2 (res_main_v167 V)))⟩,
     ⟨S15x32x32x1, broadcastInDim S15x32x32x1 ![0, 1, 2] bcast_S15x32x32_S15x32x32x1_0_1_2 (broadcastInDim S15x32x32 ![0, 1, 2] bcast_S15x1x1_S15x32x32_0_1_2
      (broadcastInDim S15x1x1 ![0] bcast_S15_S15x1x1_0 fun i => FloatOps.ofBits .f32 (lit4 (S15.rowMajor i))))⟩,
     ⟨S15x32x32x1, broadcastInDim S15x32x32x1 ![0, 1, 2] bcast_S15x32x32_S15x32x32x1_0_1_2 (broadcastInDim S15x32x32 ![0, 1, 2] bcast_S15x1x1_S15x32x32_0_1_2
      (broadcastInDim S15x1x1 ![0] bcast_S15_S15x1x1_0 fun i => FloatOps.ofBits .f32 (lit5 (S15.rowMajor i))))⟩]
    concatenates_S15x32x32x1_S15x32x32x1_S15x32x32x1_S15x32x32x1_S15x32x32x4_d3) shapeCasts_S15x32x32x4_S15360x4

theorem steps32 (i : Fin 32) : (res_main_v167 V : FVec Ideal S32 .f32) (ix1 i)
    = FloatOps.sitofp (F := Ideal) .f32 (BitVec.ofNat 32 i) * Ideal.ofBits .f32 0x41800000#32 := by
  unfold res_main_v167
  clean_types
  pointwise

theorem listed32 (n : Fin 15360) (f : Fin 4) : list32 V (ix2 n f) = numbered 0x41800000#32 5 n f := by
  unfold list32
  pointwise
  have key := numbered_of 0x41800000#32 5 n (by norm_num) f _ _ (S15.rowMajor (ix1 ⟨n / 1024, by omega⟩)) lit4 lit5
    rfl rfl (Shape.rowMajor_val_one _) (steps32 V ⟨n / 32 % 32, by omega⟩) (steps32 V ⟨n % 32, by omega⟩)
  exact key

/-- The reference's anchors of the level of 16 rows. -/
abbrev list16 : FVec Ideal S3840x4 .f32 :=
  shapeCast S3840x4 (concatenate S15x16x16x4 3
    [⟨S15x16x16x1, broadcastInDim S15x16x16x1 ![0, 1, 2] bcast_S15x16x16_S15x16x16x1_0_1_2 (broadcastInDim S15x16x16 ![0, 1, 2] bcast_S1x16x1_S15x16x16_0_1_2
      (broadcastInDim S1x16x1 ![1] bcast_S16_S1x16x1_1 (res_main_v244 V)))⟩,
     ⟨S15x16x16x1, broadcastInDim S15x16x16x1 ![0, 1, 2] bcast_S15x16x16_S15x16x16x1_0_1_2 (broadcastInDim S15x16x16 ![0, 1, 2] bcast_S1x1x16_S15x16x16_0_1_2
      (broadcastInDim S1x1x16 ![2] bcast_S16_S1x1x16_2 (res_main_v244 V)))⟩,
     ⟨S15x16x16x1, broadcastInDim S15x16x16x1 ![0, 1, 2] bcast_S15x16x16_S15x16x16x1_0_1_2 (broadcastInDim S15x16x16 ![0, 1, 2] bcast_S15x1x1_S15x16x16_0_1_2
      (broadcastInDim S15x1x1 ![0] bcast_S15_S15x1x1_0 fun i => FloatOps.ofBits .f32 (lit6 (S15.rowMajor i))))⟩,
     ⟨S15x16x16x1, broadcastInDim S15x16x16x1 ![0, 1, 2] bcast_S15x16x16_S15x16x16x1_0_1_2 (broadcastInDim S15x16x16 ![0, 1, 2] bcast_S15x1x1_S15x16x16_0_1_2
      (broadcastInDim S15x1x1 ![0] bcast_S15_S15x1x1_0 fun i => FloatOps.ofBits .f32 (lit7 (S15.rowMajor i))))⟩]
    concatenates_S15x16x16x1_S15x16x16x1_S15x16x16x1_S15x16x16x1_S15x16x16x4_d3) shapeCasts_S15x16x16x4_S3840x4

theorem steps16 (i : Fin 16) : (res_main_v244 V : FVec Ideal S16 .f32) (ix1 i)
    = FloatOps.sitofp (F := Ideal) .f32 (BitVec.ofNat 32 i) * Ideal.ofBits .f32 0x42000000#32 := by
  unfold res_main_v244
  clean_types
  pointwise

theorem listed16 (n : Fin 3840) (f : Fin 4) : list16 V (ix2 n f) = numbered 0x42000000#32 4 n f := by
  unfold list16
  pointwise
  have key := numbered_of 0x42000000#32 4 n (by norm_num) f _ _ (S15.rowMajor (ix1 ⟨n / 256, by omega⟩)) lit6 lit7
    rfl rfl (Shape.rowMajor_val_one _) (steps16 V ⟨n / 16 % 16, by omega⟩) (steps16 V ⟨n % 16, by omega⟩)
  exact key

/-- The reference's anchors of the level of 8 rows. -/
abbrev list8 : FVec Ideal S960x4 .f32 :=
  shapeCast S960x4 (concatenate S15x8x8x4 3
    [⟨S15x8x8x1, broadcastInDim S15x8x8x1 ![0, 1, 2] bcast_S15x8x8_S15x8x8x1_0_1_2 (broadcastInDim S15x8x8 ![0, 1, 2] bcast_S1x8x1_S15x8x8_0_1_2
      (broadcastInDim S1x8x1 ![1] bcast_S8_S1x8x1_1 (res_main_v321 V)))⟩,
     ⟨S15x8x8x1, broadcastInDim S15x8x8x1 ![0, 1, 2] bcast_S15x8x8_S15x8x8x1_0_1_2 (broadcastInDim S15x8x8 ![0, 1, 2] bcast_S1x1x8_S15x8x8_0_1_2
      (broadcastInDim S1x1x8 ![2] bcast_S8_S1x1x8_2 (res_main_v321 V)))⟩,
     ⟨S15x8x8x1, broadcastInDim S15x8x8x1 ![0, 1, 2] bcast_S15x8x8_S15x8x8x1_0_1_2 (broadcastInDim S15x8x8 ![0, 1, 2] bcast_S15x1x1_S15x8x8_0_1_2
      (broadcastInDim S15x1x1 ![0] bcast_S15_S15x1x1_0 fun i => FloatOps.ofBits .f32 (lit8 (S15.rowMajor i))))⟩,
     ⟨S15x8x8x1, broadcastInDim S15x8x8x1 ![0, 1, 2] bcast_S15x8x8_S15x8x8x1_0_1_2 (broadcastInDim S15x8x8 ![0, 1, 2] bcast_S15x1x1_S15x8x8_0_1_2
      (broadcastInDim S15x1x1 ![0] bcast_S15_S15x1x1_0 fun i => FloatOps.ofBits .f32 (lit9 (S15.rowMajor i))))⟩]
    concatenates_S15x8x8x1_S15x8x8x1_S15x8x8x1_S15x8x8x1_S15x8x8x4_d3) shapeCasts_S15x8x8x4_S960x4

theorem steps8 (i : Fin 8) : (res_main_v321 V : FVec Ideal S8 .f32) (ix1 i)
    = FloatOps.sitofp (F := Ideal) .f32 (BitVec.ofNat 32 i) * Ideal.ofBits .f32 0x42800000#32 := by
  unfold res_main_v321
  clean_types
  pointwise

theorem listed8 (n : Fin 960) (f : Fin 4) : list8 V (ix2 n f) = numbered 0x42800000#32 3 n f := by
  unfold list8
  pointwise
  have key := numbered_of 0x42800000#32 3 n (by norm_num) f _ _ (S15.rowMajor (ix1 ⟨n / 64, by omega⟩)) lit8 lit9
    rfl rfl (Shape.rowMajor_val_one _) (steps8 V ⟨n / 8 % 8, by omega⟩) (steps8 V ⟨n % 8, by omega⟩)
  exact key

/-- The five lists. -/
abbrev lists : List ((s : Shape) × (s.Idx → EReal)) :=
  [⟨S245760x4, list128 V⟩, ⟨S61440x4, list64 V⟩, ⟨S15360x4, list32 V⟩, ⟨S3840x4, list16 V⟩, ⟨S960x4, list8 V⟩]

/-- The five lists joined. -/
theorem joined : (res_main_v395 V : FVec Ideal S327360x4 .f32) = concatenate S327360x4 0 (lists V)
    concatenates_S245760x4_S61440x4_S15360x4_S3840x4_S960x4_S327360x4_d0 := rfl

/-- A row of a join of lists, in the list it lies in. -/
theorem piece (xs : List ((s : Shape) × (s.Idx → EReal))) (h) (k : ℕ) (hk : k < xs.length) (d : ℕ)
    (x : Shape.Idx ⟨2, ![d, 4]⟩ → EReal) (hx : xs[k] = ⟨⟨2, ![d, 4]⟩, x⟩) (pre : ℕ)
    (hpre : (((xs.take k).map (·.1)).map fun s => if h : s.rank = S327360x4.rank then s.size ((0 : Fin 2).cast h.symm) else 0).sum = pre)
    (n : Fin 327360) (f : Fin 4) (i : Fin d) (hi : pre + (i : ℕ) = n) :
    concatenate S327360x4 0 xs h (ix2 n f) = x (ix2 i f) := by
  refine concatenate_apply_piece (t := S327360x4) 0 xs h (ix2 n f) k hk _ x hx rfl pre hpre (ix2 i f) ?_ hi
  intro b hb
  fin_cases b
  · exact absurd rfl hb
  · rfl

/-- The reference's anchors, row by row. -/
theorem anchorRows (n : Fin 327360) (f : Fin 4) :
    (res_main_v395 V : FVec Ideal S327360x4 .f32) (ix2 n f) = anchors n f := by
  rw [joined V]
  have hn := n.isLt
  by_cases h0 : (n : ℕ) < 245760
  · refine (piece (lists V) _ 0 (by decide : 0 < 5) 245760 (list128 V) rfl 0 rfl n f ⟨n, by omega⟩ (Nat.zero_add _)).trans ?_
    exact (listed128 V _ f).trans (anchors_128 n h0 f).symm
  by_cases h1 : (n : ℕ) < 307200
  · refine (piece (lists V) _ 1 (by decide : 1 < 5) 61440 (list64 V) rfl 245760 rfl n f ⟨n - 245760, by omega⟩ (Nat.add_sub_cancel' (by omega))).trans ?_
    refine (listed64 V _ f).trans ((anchors_64 _ (by omega) f).symm.trans ?_)
    exact congrArg (anchors · f) (Nat.add_sub_cancel' (by omega))
  by_cases h2 : (n : ℕ) < 322560
  · refine (piece (lists V) _ 2 (by decide : 2 < 5) 15360 (list32 V) rfl 307200 rfl n f ⟨n - 307200, by omega⟩ (Nat.add_sub_cancel' (by omega))).trans ?_
    refine (listed32 V _ f).trans ((anchors_32 _ (by omega) f).symm.trans ?_)
    exact congrArg (anchors · f) (Nat.add_sub_cancel' (by omega))
  by_cases h3 : (n : ℕ) < 326400
  · refine (piece (lists V) _ 3 (by decide : 3 < 5) 3840 (list16 V) rfl 322560 rfl n f ⟨n - 322560, by omega⟩ (Nat.add_sub_cancel' (by omega))).trans ?_
    refine (listed16 V _ f).trans ((anchors_16 _ (by omega) f).symm.trans ?_)
    exact congrArg (anchors · f) (Nat.add_sub_cancel' (by omega))
  refine (piece (lists V) _ 4 (by decide : 4 < 5) 960 (list8 V) rfl 326400 rfl n f ⟨n - 326400, by omega⟩ (Nat.add_sub_cancel' (by omega))).trans ?_
  refine (listed8 V _ f).trans ((anchors_8 _ f).symm.trans ?_)
  exact congrArg (anchors · f) (Nat.add_sub_cancel' (by omega))

end Cert.ReferenceIdeal.Value

end
-- ==== Proof.Results.lean ====
module

public import proofs.«01_k».proof.Proof.Frames
public import proofs.«01_k».proof.Proof.TailResults
public import proofs.«01_k».proof.Proof.AnchorResult
public import proofs.«01_k».proof.Proof.ReferenceLevels
public import proofs.«01_k».proof.Proof.ReferenceAnchors

/-!
# The eleven results

The kernel returns the anchors, the five arrays of logits and the five arrays of boxes; the reference, launched on the
same arguments, returns the same.
-/

@[expose] public section

set_option maxRecDepth 100000

noncomputable section

namespace Cert.Level

open Idealize.ShloMosaic Idealize.ShloMosaic.TcCoe Idealize.ShloMosaic.Tactic

/-- All the anchors, one to a row. -/
def anchorTable : (⟨2, ![327360, 4]⟩ : Shape).Idx → EReal := fun y => anchors (y 0).val (y 1)

theorem eq_anchorTable {f : (⟨2, ![327360, 4]⟩ : Shape).Idx → EReal} (h : ∀ n a, f (ix2 n a) = anchors n.val a) :
    f = anchorTable := by
  funext y
  have e : y = ix2 (y 0) (y 1) := by
    funext a
    fin_cases a <;> rfl
  exact (congrArg f e).trans (h (y 0) (y 1))

end Cert.Level

namespace Cert.KernelIdeal.Launched

open Cert.KernelIdeal.Gen Cert.Level
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The logits of the level held by argument `x`. -/
abbrev logitsOf {g : ℕ} (x : (⟨4, ![1, 256, g, g]⟩ : Shape).Idx → EReal) : (⟨4, ![1, 15, g, g]⟩ : Shape).Idx → EReal :=
  outputs x (m ((c : Thread nD τ).loc main_arg6) : Vec Ideal S256x256x3x3 .f32) (m ((c : Thread nD τ).loc main_arg7) : Vec Ideal S256 .f32)
    (m ((c : Thread nD τ).loc main_arg8) : Vec Ideal S15x256 .f32) (m ((c : Thread nD τ).loc main_arg9) : Vec Ideal S15 .f32)

/-- The boxes of the level held by argument `x`. -/
abbrev boxesOf {g : ℕ} (x : (⟨4, ![1, 256, g, g]⟩ : Shape).Idx → EReal) : (⟨4, ![1, 60, g, g]⟩ : Shape).Idx → EReal :=
  outputs x (m ((c : Thread nD τ).loc main_arg6) : Vec Ideal S256x256x3x3 .f32) (m ((c : Thread nD τ).loc main_arg7) : Vec Ideal S256 .f32)
    (m ((c : Thread nD τ).loc main_arg10) : Vec Ideal S60x256 .f32) (m ((c : Thread nD τ).loc main_arg11) : Vec Ideal S60 .f32)

end Cert.KernelIdeal.Launched

namespace Cert.Results

open Cert.KernelIdeal.Launched Cert.Level
open Idealize.ShloMosaic Idealize.ShloMosaic.TcCoe Idealize.ShloMosaic.Tactic Idealize.SL.Sem

theorem algebraic : Cert.algebraic_KernelIdeal_ReferenceIdeal := by
  intro m ρ m' ρ' _ same
  refine ⟨fun _ => anchorTable,
    fun c => logitsOf m c (m ((c : Thread Cert.KernelIdeal.nD Cert.KernelIdeal.τ).loc Cert.KernelIdeal.main_arg1) : Vec Ideal Cert.KernelIdeal.S1x256x128x128 .f32),
    fun c => logitsOf m c (m ((c : Thread Cert.KernelIdeal.nD Cert.KernelIdeal.τ).loc Cert.KernelIdeal.main_arg2) : Vec Ideal Cert.KernelIdeal.S1x256x64x64 .f32),
    fun c => logitsOf m c (m ((c : Thread Cert.KernelIdeal.nD Cert.KernelIdeal.τ).loc Cert.KernelIdeal.main_arg3) : Vec Ideal Cert.KernelIdeal.S1x256x32x32 .f32),
    fun c => logitsOf m c (m ((c : Thread Cert.KernelIdeal.nD Cert.KernelIdeal.τ).loc Cert.KernelIdeal.main_arg4) : Vec Ideal Cert.KernelIdeal.S1x256x16x16 .f32),
    fun c => logitsOf m c (m ((c : Thread Cert.KernelIdeal.nD Cert.KernelIdeal.τ).loc Cert.KernelIdeal.main_arg5) : Vec Ideal Cert.KernelIdeal.S1x256x8x8 .f32),
    fun c => boxesOf m c (m ((c : Thread Cert.KernelIdeal.nD Cert.KernelIdeal.τ).loc Cert.KernelIdeal.main_arg1) : Vec Ideal Cert.KernelIdeal.S1x256x128x128 .f32),
    fun c => boxesOf m c (m ((c : Thread Cert.KernelIdeal.nD Cert.KernelIdeal.τ).loc Cert.KernelIdeal.main_arg2) : Vec Ideal Cert.KernelIdeal.S1x256x64x64 .f32),
    fun c => boxesOf m c (m ((c : Thread Cert.KernelIdeal.nD Cert.KernelIdeal.τ).loc Cert.KernelIdeal.main_arg3) : Vec Ideal Cert.KernelIdeal.S1x256x32x32 .f32),
    fun c => boxesOf m c (m ((c : Thread Cert.KernelIdeal.nD Cert.KernelIdeal.τ).loc Cert.KernelIdeal.main_arg4) : Vec Ideal Cert.KernelIdeal.S1x256x16x16 .f32),
    fun c => boxesOf m c (m ((c : Thread Cert.KernelIdeal.nD Cert.KernelIdeal.τ).loc Cert.KernelIdeal.main_arg5) : Vec Ideal Cert.KernelIdeal.S1x256x8x8 .f32), ?_, ?_⟩
  · refine (θ_run Cert.KernelIdeal.defs _ _).mono (fun r h c => ?_) (run m ρ)
    have lasting : ∀ a ∈ argRefs, ¬ (Proc.devRef .tc a : DevRef Cert.KernelIdeal.τ Cert.KernelIdeal.sig).isScoped :=
      ListAll.forall_mem_of_all_decide (by decide +kernel)
    have hargs := Frames.each_arg fun a ha => (h.1 c a (lasting a ha)).trans (W5_args m ρ c a ha)
    refine ⟨?_, ?_, ?_, ?_, ?_, ?_, ?_, ?_, ?_, ?_, ?_, hargs⟩
    · exact (h.1 c _ (by decide)).trans (eq_anchorTable (anchorRows m ρ c))
    · exact (h.1 c _ (by decide)).trans (eq_outputs (logits128 m ρ c))
    · exact (h.1 c _ (by decide)).trans (eq_outputs (logits64 m ρ c))
    · exact (h.1 c _ (by decide)).trans (eq_outputs (logits32 m ρ c))
    · exact (h.1 c _ (by decide)).trans (eq_outputs (logits16 m ρ c))
    · exact (h.1 c _ (by decide)).trans (eq_outputs (logits8 m ρ c))
    · exact (h.1 c _ (by decide)).trans (eq_outputs (boxes128 m ρ c))
    · exact (h.1 c _ (by decide)).trans (eq_outputs (boxes64 m ρ c))
    · exact (h.1 c _ (by decide)).trans (eq_outputs (boxes32 m ρ c))
    · exact (h.1 c _ (by decide)).trans (eq_outputs (boxes16 m ρ c))
    · exact (h.1 c _ (by decide)).trans (eq_outputs (boxes8 m ρ c))
  · refine (θ_run Cert.ReferenceIdeal.defs _ _).mono (fun r h c => ?_) (Cert.ReferenceIdeal.Value.returned m' ρ')
    obtain ⟨h0, h1, h2, h3, h4, h5, h6, h7, h8, h9, h10, hargs⟩ := h c
    obtain ⟨_, a1, a2, a3, a4, a5, a6, a7, a8, a9, a10, a11⟩ := same c
    refine ⟨h0.trans (eq_anchorTable (Cert.ReferenceIdeal.Value.anchorRows _)), ?_, ?_, ?_, ?_, ?_, ?_, ?_, ?_, ?_, ?_, hargs⟩
    · rw [h1, a1, a6, a7, a8, a9]
    · rw [h2, a2, a6, a7, a8, a9]
    · rw [h3, a3, a6, a7, a8, a9]
    · rw [h4, a4, a6, a7, a8, a9]
    · rw [h5, a5, a6, a7, a8, a9]
    · rw [h6, a1, a6, a7, a10, a11]
    · rw [h7, a2, a6, a7, a10, a11]
    · rw [h8, a3, a6, a7, a10, a11]
    · rw [h9, a4, a6, a7, a10, a11]
    · rw [h10, a5, a6, a7, a10, a11]

end Cert.Results

end
-- ==== Proof.lean ====
module

public import proofs.«01_k».proof.Defs
public import proofs.«01_k».proof.Proof.Results

/-!
# The certificate

The three programs leave their arguments alone, and the kernel returns the reference's eleven results.
-/

@[expose] public section

noncomputable section

namespace Cert.Proof

theorem claim : Cert.Claim :=
  ⟨Cert.Kernel.Gen.facts, Cert.KernelIdeal.Gen.facts, Cert.ReferenceIdeal.Gen.facts,
    Cert.Frames.kernel, Cert.Frames.kernelIdeal, Cert.Frames.referenceIdeal, trivial, Cert.Results.algebraic⟩

end Cert.Proof

end
